-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v225) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x1024 : Shape := ⟨3, ![4, 8192, 1024]⟩
abbrev S1024x1024 : Shape := ⟨2, ![1024, 1024]⟩
abbrev S8x1024 : Shape := ⟨2, ![8, 1024]⟩
abbrev S8 : Shape := ⟨1, ![8]⟩
abbrev S1024x8 : Shape := ⟨2, ![1024, 8]⟩
abbrev S1024x16 : Shape := ⟨2, ![1024, 16]⟩
abbrev S1x8 : Shape := ⟨2, ![1, 8]⟩
abbrev S1x64x1024 : Shape := ⟨3, ![1, 64, 1024]⟩
abbrev S8x128x128 : Shape := ⟨3, ![8, 128, 128]⟩
abbrev S1x1024 : Shape := ⟨2, ![1, 1024]⟩
abbrev S64x1024 : Shape := ⟨2, ![64, 1024]⟩
abbrev S512x64 : Shape := ⟨2, ![512, 64]⟩
abbrev S64x8 : Shape := ⟨2, ![64, 8]⟩
abbrev S64x128 : Shape := ⟨2, ![64, 128]⟩
abbrev S128x128 : Shape := ⟨2, ![128, 128]⟩
abbrev S1x128x128 : Shape := ⟨3, ![1, 128, 128]⟩
abbrev S64x16 : Shape := ⟨2, ![64, 16]⟩
abbrev S64x64 : Shape := ⟨2, ![64, 64]⟩
abbrev S64x512 : Shape := ⟨2, ![64, 512]⟩
abbrev S512x512 : Shape := ⟨2, ![512, 512]⟩
abbrev S8x64 : Shape := ⟨2, ![8, 64]⟩
abbrev S64 : Shape := ⟨1, ![64]⟩
abbrev S64x1 : Shape := ⟨2, ![64, 1]⟩
abbrev S128x64 : Shape := ⟨2, ![128, 64]⟩
abbrev S1x64 : Shape := ⟨2, ![1, 64]⟩
abbrev S128x512 : Shape := ⟨2, ![128, 512]⟩
abbrev S1x1 : Shape := ⟨2, ![1, 1]⟩
abbrev S64x256 : Shape := ⟨2, ![64, 256]⟩

abbrev nBuf : Space → Nat
  | .hbm => 19
  | .vmem => 21
  | .smem => 0
  | _ => 0

abbrev bufTy : (tb : Table) → Fin (tcTables nBuf tb) → BufTy
  | .hbm, ⟨0, _⟩ => ⟨S4x8192x1024, .f32⟩
  | .hbm, ⟨1, _⟩ => ⟨S1024x1024, .f32⟩
  | .hbm, ⟨2, _⟩ => ⟨S8x1024, .f32⟩
  | .hbm, ⟨3, _⟩ => ⟨S1024x1024, .f32⟩
  | .hbm, ⟨4, _⟩ => ⟨S8x1024, .f32⟩
  | .hbm, ⟨5, _⟩ => ⟨S8x1024, .f32⟩
  | .hbm, ⟨6, _⟩ => ⟨S8, .f32⟩
  | .hbm, ⟨7, _⟩ => ⟨S8, .f32⟩
  | .hbm, ⟨8, _⟩ => ⟨S1024x1024, .f32⟩
  | .hbm, ⟨9, _⟩ => ⟨S1024x1024, .f32⟩
  | .hbm, ⟨10, _⟩ => ⟨S1024x8, .f32⟩
  | .hbm, ⟨11, _⟩ => ⟨S1024x8, .f32⟩
  | .hbm, ⟨12, _⟩ => ⟨S1024x16, .f32⟩
  | .hbm, ⟨13, _⟩ => ⟨S1024x8, .f32⟩
  | .hbm, ⟨14, _⟩ => ⟨S1x8, .f32⟩
  | .hbm, ⟨15, _⟩ => ⟨S8, .f32⟩
  | .hbm, ⟨16, _⟩ => ⟨S8, .f32⟩
  | .hbm, ⟨17, _⟩ => ⟨S1x8, .f32⟩
  | .hbm, ⟨18, _⟩ => ⟨S4x8192x1024, .f32⟩
  | .local _ .vmem, ⟨0, _⟩ => ⟨S1x64x1024, .f32⟩
  | .local _ .vmem, ⟨1, _⟩ => ⟨S1x64x1024, .f32⟩
  | .local _ .vmem, ⟨2, _⟩ => ⟨S1x64x1024, .f32⟩
  | .local _ .vmem, ⟨3, _⟩ => ⟨S1x64x1024, .f32⟩
  | .local _ .vmem, ⟨4, _⟩ => ⟨S1024x1024, .f32⟩
  | .local _ .vmem, ⟨5, _⟩ => ⟨S1024x16, .f32⟩
  | .local _ .vmem, ⟨6, _⟩ => ⟨S1024x8, .f32⟩
  | .local _ .vmem, ⟨7, _⟩ => ⟨S1024x1024, .f32⟩
  | .local _ .vmem, ⟨8, _⟩ => ⟨S1x8, .f32⟩
  | .local _ .vmem, ⟨9, _⟩ => ⟨S1x8, .f32⟩
  | .local _ .vmem, ⟨10, _⟩ => ⟨S1x64x1024, .f32⟩
  | .local _ .vmem, ⟨11, _⟩ => ⟨S1x64x1024, .f32⟩
  | .local _ .vmem, ⟨12, _⟩ => ⟨S8x128x128, .f32⟩
  | .local _ .vmem, ⟨13, _⟩ => ⟨S1x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S512x64, .f32⟩
  | .local _ .vmem, ⟨19, _⟩ => ⟨S64x8, .f32⟩
  | .local _ .vmem, ⟨20, _⟩ => ⟨S1x8, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![4, 129], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.minsi arg1 c127_i32
  let c0_i32 : BitVec 32 := 0#32
  let c0_i32_0 : BitVec 32 := 0#32
  ![arg0.toNat, v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x8192x1024 : Shape := ⟨3, ![4, 8192, 1024]⟩
abbrev S1024x1024 : Shape := ⟨2, ![1024, 1024]⟩
abbrev S8x1024 : Shape := ⟨2, ![8, 1024]⟩
abbrev S8 : Shape := ⟨1, ![8]⟩
abbrev S4x8192x8x128 : Shape := ⟨4, ![4, 8192, 8, 128]⟩
abbrev S1024x8 : Shape := ⟨2, ![1024, 8]⟩
abbrev S4x8192x8 : Shape := ⟨3, ![4, 8192, 8]⟩
abbrev S_ : Shape := ⟨0, ![]⟩
abbrev S4x8192x8x1 : Shape := ⟨4, ![4, 8192, 8, 1]⟩
abbrev S1x1x8 : Shape := ⟨3, ![1, 1, 8]⟩
abbrev S4x8191x8x128 : Shape := ⟨4, ![4, 8191, 8, 128]⟩
abbrev S4x8x8192x128 : Shape := ⟨4, ![4, 8, 8192, 128]⟩
abbrev S4x8x8192 : Shape := ⟨3, ![4, 8, 8192]⟩
abbrev S4x8x8192x1 : Shape := ⟨4, ![4, 8, 8192, 1]⟩
abbrev S4x8x128x64x128 : Shape := ⟨5, ![4, 8, 128, 64, 128]⟩
abbrev S4x8x128x64 : Shape := ⟨4, ![4, 8, 128, 64]⟩
abbrev S4x8x128x64x1 : Shape := ⟨5, ![4, 8, 128, 64, 1]⟩
abbrev S64x64 : Shape := ⟨2, ![64, 64]⟩
abbrev S4x8x128x1x64 : Shape := ⟨5, ![4, 8, 128, 1, 64]⟩
abbrev S4x8x128x64x64 : Shape := ⟨5, ![4, 8, 128, 64, 64]⟩
abbrev S128x4x8x64x128 : Shape := ⟨5, ![128, 4, 8, 64, 128]⟩
abbrev S128x4x8x64 : Shape := ⟨4, ![128, 4, 8, 64]⟩
abbrev S128x4x8x64x64 : Shape := ⟨5, ![128, 4, 8, 64, 64]⟩
abbrev S4x8x128x128 : Shape := ⟨4, ![4, 8, 128, 128]⟩
abbrev S1x4x8x64x128 : Shape := ⟨5, ![1, 4, 8, 64, 128]⟩
abbrev S4x8x64x128 : Shape := ⟨4, ![4, 8, 64, 128]⟩
abbrev S1x4x8x64 : Shape := ⟨4, ![1, 4, 8, 64]⟩
abbrev S4x8x64 : Shape := ⟨3, ![4, 8, 64]⟩
abbrev S1x4x8x64x64 : Shape := ⟨5, ![1, 4, 8, 64, 64]⟩
abbrev S4x8x64x64 : Shape := ⟨4, ![4, 8, 64, 64]⟩
abbrev S4x8x64x1 : Shape := ⟨4, ![4, 8, 64, 1]⟩
abbrev S4x8x1 : Shape := ⟨3, ![4, 8, 1]⟩
abbrev S4x8 : Shape := ⟨2, ![4, 8]⟩
abbrev S4x8x1x1 : Shape := ⟨4, ![4, 8, 1, 1]⟩

abbrev nBuf : Space → Nat
  | .hbm => 373
  | .vmem => 0
  | .smem => 0
  | _ => 0

abbrev hbmTy0_0 (i : Nat) : BufTy := match i % 128 with
  | 0 => ⟨S4x8192x1024, .f32⟩
  | 1 => ⟨S1024x1024, .f32⟩
  | 2 => ⟨S8x1024, .f32⟩
  | 3 => ⟨S1024x1024, .f32⟩
  | 4 => ⟨S8x1024, .f32⟩
  | 5 => ⟨S8x1024, .f32⟩
  | 6 => ⟨S8, .f32⟩
  | 7 => ⟨S8, .f32⟩
  | 8 => ⟨S1024x1024, .f32⟩
  | 9 => ⟨S4x8192x1024, .f32⟩
  | 10 => ⟨S4x8192x8x128, .f32⟩
  | 11 => ⟨S1024x8, .f32⟩
  | 12 => ⟨S4x8192x8, .f32⟩
  | 13 => ⟨S4x8192x8, .f32⟩
  | 14 => ⟨S4x8192x8, .f32⟩
  | 15 => ⟨S_, .f32⟩
  | 16 => ⟨S4x8192x8, .f32⟩
  | 17 => ⟨S4x8192x8, .f32⟩
  | 18 => ⟨S_, .f32⟩
  | 19 => ⟨S4x8192x8, .f32⟩
  | 20 => ⟨S4x8192x8, .f32⟩
  | 21 => ⟨S4x8192x8x1, .f32⟩
  | 22 => ⟨S1024x8, .f32⟩
  | 23 => ⟨S4x8192x8, .f32⟩
  | 24 => ⟨S4x8192x8, .f32⟩
  | 25 => ⟨S4x8192x8, .f32⟩
  | 26 => ⟨S_, .f32⟩
  | 27 => ⟨S4x8192x8, .f32⟩
  | 28 => ⟨S4x8192x8, .f32⟩
  | 29 => ⟨S_, .f32⟩
  | 30 => ⟨S4x8192x8, .f32⟩
  | 31 => ⟨S4x8192x8, .f32⟩
  | 32 => ⟨S8, .f32⟩
  | 33 => ⟨S8, .f32⟩
  | 34 => ⟨S1024x8, .f32⟩
  | 35 => ⟨S4x8192x8, .f32⟩
  | 36 => ⟨S1x1x8, .f32⟩
  | 37 => ⟨S4x8192x8, .f32⟩
  | 38 => ⟨S4x8192x8, .f32⟩
  | 39 => ⟨S_, .f32⟩
  | 40 => ⟨S4x8192x8, .f32⟩
  | 41 => ⟨S4x8192x8, .f32⟩
  | 42 => ⟨S4x8192x8, .f32⟩
  | 43 => ⟨S4x8192x8, .f32⟩
  | 44 => ⟨S4x8192x8, .i1⟩
  | 45 => ⟨S4x8192x8, .f32⟩
  | 46 => ⟨S4x8192x8, .f32⟩
  | 47 => ⟨S4x8192x8, .f32⟩
  | 48 => ⟨S4x8192x8, .f32⟩
  | 49 => ⟨S4x8192x8, .f32⟩
  | 50 => ⟨S4x8192x8, .f32⟩
  | 51 => ⟨S4x8192x8, .f32⟩
  | 52 => ⟨S4x8192x8, .f32⟩
  | 53 => ⟨S1x1x8, .f32⟩
  | 54 => ⟨S4x8192x8, .f32⟩
  | 55 => ⟨S4x8192x8, .f32⟩
  | 56 => ⟨S4x8192x8x128, .f32⟩
  | 57 => ⟨S4x8192x8x128, .f32⟩
  | 58 => ⟨S_, .f32⟩
  | 59 => ⟨S4x8192x8, .f32⟩
  | 60 => ⟨S4x8192x8x1, .f32⟩
  | 61 => ⟨S4x8192x8x1, .f32⟩
  | 62 => ⟨S_, .f32⟩
  | 63 => ⟨S4x8192x8x1, .f32⟩
  | 64 => ⟨S4x8192x8x1, .f32⟩
  | 65 => ⟨S4x8192x8x128, .f32⟩
  | 66 => ⟨S4x8192x8x128, .f32⟩
  | 67 => ⟨S4x8191x8x128, .f32⟩
  | 68 => ⟨S_, .i32⟩
  | 69 => ⟨S_, .f32⟩
  | 70 => ⟨S4x8192x8x128, .f32⟩
  | 71 => ⟨S4x8x8192x128, .f32⟩
  | 72 => ⟨S4x8x8192x128, .f32⟩
  | 73 => ⟨S4x8x8192x128, .f32⟩
  | 74 => ⟨S4x8x8192, .f32⟩
  | 75 => ⟨S4x8x8192x1, .f32⟩
  | 76 => ⟨S4x8x8192x128, .f32⟩
  | 77 => ⟨S4x8x8192x128, .f32⟩
  | 78 => ⟨S4x8x8192x128, .f32⟩
  | 79 => ⟨S4x8x8192x128, .f32⟩
  | 80 => ⟨S4x8x128x64x128, .f32⟩
  | 81 => ⟨S4x8x128x64x128, .f32⟩
  | 82 => ⟨S4x8x128x64x128, .f32⟩
  | 83 => ⟨S4x8x128x64x128, .f32⟩
  | 84 => ⟨S4x8x8192, .f32⟩
  | 85 => ⟨S4x8x128x64, .f32⟩
  | 86 => ⟨S_, .f32⟩
  | 87 => ⟨S_, .f32⟩
  | 88 => ⟨S4x8x128x64, .f32⟩
  | 89 => ⟨S4x8x128x64, .f32⟩
  | 90 => ⟨S4x8x128x64x1, .f32⟩
  | 91 => ⟨S_, .i1⟩
  | 92 => ⟨S64x64, .i1⟩
  | 93 => ⟨S64x64, .i32⟩
  | 94 => ⟨S_, .i32⟩
  | 95 => ⟨S64x64, .i32⟩
  | 96 => ⟨S64x64, .i32⟩
  | 97 => ⟨S64x64, .i32⟩
  | 98 => ⟨S64x64, .i1⟩
  | 99 => ⟨S_, .i1⟩
  | 100 => ⟨S64x64, .i1⟩
  | 101 => ⟨S64x64, .i1⟩
  | 102 => ⟨S_, .i1⟩
  | 103 => ⟨S64x64, .i1⟩
  | 104 => ⟨S64x64, .i32⟩
  | 105 => ⟨S_, .i32⟩
  | 106 => ⟨S64x64, .i32⟩
  | 107 => ⟨S64x64, .i32⟩
  | 108 => ⟨S64x64, .i32⟩
  | 109 => ⟨S64x64, .i1⟩
  | 110 => ⟨S_, .i1⟩
  | 111 => ⟨S64x64, .i1⟩
  | 112 => ⟨S64x64, .i1⟩
  | 113 => ⟨S4x8x128x64x1, .f32⟩
  | 114 => ⟨S4x8x128x1x64, .f32⟩
  | 115 => ⟨S4x8x128x64x64, .f32⟩
  | 116 => ⟨S4x8x128x64x64, .f32⟩
  | 117 => ⟨S4x8x128x64x64, .f32⟩
  | 118 => ⟨S_, .f32⟩
  | 119 => ⟨S_, .f32⟩
  | 120 => ⟨S4x8x128x64x64, .i1⟩
  | 121 => ⟨S4x8x128x64x64, .f32⟩
  | 122 => ⟨S4x8x128x64x64, .f32⟩
  | 123 => ⟨S4x8x128x64x64, .f32⟩
  | 124 => ⟨S4x8x128x64x64, .f32⟩
  | 125 => ⟨S4x8x128x64x64, .f32⟩
  | 126 => ⟨S_, .f32⟩
  | 127 => ⟨S4x8x128x64x64, .i1⟩
  | _ => ⟨S4x8192x1024, .f32⟩

abbrev hbmTy0_1 (i : Nat) : BufTy := match i % 128 with
  | 0 => ⟨S4x8x128x64x64, .f32⟩
  | 1 => ⟨S4x8x128x64x64, .f32⟩
  | 2 => ⟨S64x64, .i32⟩
  | 3 => ⟨S64x64, .i32⟩
  | 4 => ⟨S_, .i32⟩
  | 5 => ⟨S64x64, .i32⟩
  | 6 => ⟨S64x64, .i32⟩
  | 7 => ⟨S64x64, .i1⟩
  | 8 => ⟨S64x64, .f32⟩
  | 9 => ⟨S4x8x128x64x64, .f32⟩
  | 10 => ⟨S4x8x128x64x64, .f32⟩
  | 11 => ⟨S4x8x128x64x64, .f32⟩
  | 12 => ⟨S4x8x128x64x64, .f32⟩
  | 13 => ⟨S4x8x128x64x64, .f32⟩
  | 14 => ⟨S4x8x128x64x64, .f32⟩
  | 15 => ⟨S4x8x128x64x64, .f32⟩
  | 16 => ⟨S4x8x128x64x64, .f32⟩
  | 17 => ⟨S4x8x128x64x64, .f32⟩
  | 18 => ⟨S4x8x128x64x64, .f32⟩
  | 19 => ⟨S4x8x128x64x64, .f32⟩
  | 20 => ⟨S4x8x128x64x64, .f32⟩
  | 21 => ⟨S4x8x128x64x64, .f32⟩
  | 22 => ⟨S4x8x128x64x64, .f32⟩
  | 23 => ⟨S4x8x128x64x64, .f32⟩
  | 24 => ⟨S4x8x128x64x64, .f32⟩
  | 25 => ⟨S4x8x128x64x64, .f32⟩
  | 26 => ⟨S4x8x128x64x64, .f32⟩
  | 27 => ⟨S4x8x128x64x64, .f32⟩
  | 28 => ⟨S4x8x128x64x64, .f32⟩
  | 29 => ⟨S4x8x128x64x64, .f32⟩
  | 30 => ⟨S4x8x128x64x64, .f32⟩
  | 31 => ⟨S4x8x128x64x64, .f32⟩
  | 32 => ⟨S4x8x128x64x64, .f32⟩
  | 33 => ⟨S4x8x128x64x64, .f32⟩
  | 34 => ⟨S4x8x128x64x64, .f32⟩
  | 35 => ⟨S4x8x128x64x64, .f32⟩
  | 36 => ⟨S4x8x128x64x64, .f32⟩
  | 37 => ⟨S4x8x128x64x64, .f32⟩
  | 38 => ⟨S4x8x128x64x64, .f32⟩
  | 39 => ⟨S4x8x128x64x64, .f32⟩
  | 40 => ⟨S4x8x128x64x64, .f32⟩
  | 41 => ⟨S4x8x128x64x64, .f32⟩
  | 42 => ⟨S4x8x128x64x64, .f32⟩
  | 43 => ⟨S4x8x128x64x64, .f32⟩
  | 44 => ⟨S4x8x128x64x64, .f32⟩
  | 45 => ⟨S4x8x128x64x64, .f32⟩
  | 46 => ⟨S4x8x128x64x64, .f32⟩
  | 47 => ⟨S4x8x128x64x64, .f32⟩
  | 48 => ⟨S4x8x128x64x64, .f32⟩
  | 49 => ⟨S4x8x128x64x64, .f32⟩
  | 50 => ⟨S4x8x128x64x64, .f32⟩
  | 51 => ⟨S4x8x128x64x64, .f32⟩
  | 52 => ⟨S4x8x128x64x64, .f32⟩
  | 53 => ⟨S4x8x128x64x64, .f32⟩
  | 54 => ⟨S4x8x128x64x64, .f32⟩
  | 55 => ⟨S4x8x128x64x64, .f32⟩
  | 56 => ⟨S4x8x128x64x64, .f32⟩
  | 57 => ⟨S4x8x128x64x64, .f32⟩
  | 58 => ⟨S4x8x128x64x64, .f32⟩
  | 59 => ⟨S4x8x128x64x64, .f32⟩
  | 60 => ⟨S4x8x128x64x64, .f32⟩
  | 61 => ⟨S4x8x128x64x64, .f32⟩
  | 62 => ⟨S4x8x128x64x64, .f32⟩
  | 63 => ⟨S4x8x128x64x64, .f32⟩
  | 64 => ⟨S4x8x128x64x64, .f32⟩
  | 65 => ⟨S4x8x128x64x64, .f32⟩
  | 66 => ⟨S4x8x128x64x64, .f32⟩
  | 67 => ⟨S4x8x128x64x64, .f32⟩
  | 68 => ⟨S4x8x128x64x64, .f32⟩
  | 69 => ⟨S4x8x128x64x64, .f32⟩
  | 70 => ⟨S4x8x128x64x64, .f32⟩
  | 71 => ⟨S4x8x128x64x64, .f32⟩
  | 72 => ⟨S4x8x128x64x64, .f32⟩
  | 73 => ⟨S4x8x128x64x64, .f32⟩
  | 74 => ⟨S4x8x128x64x64, .f32⟩
  | 75 => ⟨S4x8x128x64x64, .f32⟩
  | 76 => ⟨S4x8x128x64x64, .f32⟩
  | 77 => ⟨S4x8x128x64x64, .f32⟩
  | 78 => ⟨S4x8x128x64x64, .f32⟩
  | 79 => ⟨S4x8x128x64x64, .f32⟩
  | 80 => ⟨S4x8x128x64x64, .f32⟩
  | 81 => ⟨S4x8x128x64x64, .f32⟩
  | 82 => ⟨S4x8x128x64x64, .f32⟩
  | 83 => ⟨S4x8x128x64x64, .f32⟩
  | 84 => ⟨S4x8x128x64x64, .f32⟩
  | 85 => ⟨S4x8x128x64x64, .f32⟩
  | 86 => ⟨S4x8x128x64x64, .f32⟩
  | 87 => ⟨S4x8x128x64x64, .f32⟩
  | 88 => ⟨S4x8x128x64x64, .f32⟩
  | 89 => ⟨S4x8x128x64x64, .f32⟩
  | 90 => ⟨S4x8x128x64x64, .f32⟩
  | 91 => ⟨S4x8x128x64x64, .f32⟩
  | 92 => ⟨S4x8x128x64x64, .f32⟩
  | 93 => ⟨S4x8x128x64x64, .f32⟩
  | 94 => ⟨S4x8x128x64x64, .f32⟩
  | 95 => ⟨S4x8x128x64x64, .f32⟩
  | 96 => ⟨S4x8x128x64x64, .f32⟩
  | 97 => ⟨S4x8x128x64x64, .f32⟩
  | 98 => ⟨S4x8x128x64x64, .f32⟩
  | 99 => ⟨S4x8x128x64x64, .f32⟩
  | 100 => ⟨S4x8x128x64x64, .f32⟩
  | 101 => ⟨S4x8x128x64x64, .f32⟩
  | 102 => ⟨S4x8x128x64x64, .f32⟩
  | 103 => ⟨S4x8x128x64x64, .f32⟩
  | 104 => ⟨S4x8x128x64x64, .f32⟩
  | 105 => ⟨S4x8x128x64x64, .f32⟩
  | 106 => ⟨S4x8x128x64x64, .f32⟩
  | 107 => ⟨S4x8x128x64x64, .f32⟩
  | 108 => ⟨S4x8x128x64x64, .f32⟩
  | 109 => ⟨S4x8x128x64x64, .f32⟩
  | 110 => ⟨S4x8x128x64x64, .f32⟩
  | 111 => ⟨S4x8x128x64x64, .f32⟩
  | 112 => ⟨S4x8x128x64x64, .f32⟩
  | 113 => ⟨S4x8x128x64x64, .f32⟩
  | 114 => ⟨S4x8x128x64x64, .f32⟩
  | 115 => ⟨S4x8x128x64x64, .f32⟩
  | 116 => ⟨S4x8x128x64x64, .f32⟩
  | 117 => ⟨S4x8x128x64x64, .f32⟩
  | 118 => ⟨S4x8x128x64x64, .f32⟩
  | 119 => ⟨S4x8x128x64x64, .f32⟩
  | 120 => ⟨S4x8x128x64x64, .f32⟩
  | 121 => ⟨S4x8x128x64x64, .f32⟩
  | 122 => ⟨S4x8x128x64x64, .f32⟩
  | 123 => ⟨S4x8x128x64x64, .f32⟩
  | 124 => ⟨S4x8x128x64x64, .f32⟩
  | 125 => ⟨S4x8x128x64x64, .f32⟩
  | 126 => ⟨S4x8x128x64x64, .f32⟩
  | 127 => ⟨S4x8x128x64x64, .f32⟩
  | _ => ⟨S4x8192x1024, .f32⟩

abbrev hbmTy0_2 (i : Nat) : BufTy := match i % 128 with
  | 0 => ⟨S4x8x128x64x64, .f32⟩
  | 1 => ⟨S4x8x128x64x64, .f32⟩
  | 2 => ⟨S4x8x128x64x64, .f32⟩
  | 3 => ⟨S4x8x128x64x64, .f32⟩
  | 4 => ⟨S4x8x128x64x64, .f32⟩
  | 5 => ⟨S4x8x128x64x64, .f32⟩
  | 6 => ⟨S4x8x128x64x64, .f32⟩
  | 7 => ⟨S4x8x128x64x64, .f32⟩
  | 8 => ⟨S4x8x128x64x128, .f32⟩
  | 9 => ⟨S4x8x128x64x128, .f32⟩
  | 10 => ⟨S4x8x128x64x128, .f32⟩
  | 11 => ⟨S4x8x128x64x128, .f32⟩
  | 12 => ⟨S128x4x8x64x128, .f32⟩
  | 13 => ⟨S128x4x8x64x128, .f32⟩
  | 14 => ⟨S128x4x8x64x128, .f32⟩
  | 15 => ⟨S128x4x8x64x128, .f32⟩
  | 16 => ⟨S128x4x8x64, .f32⟩
  | 17 => ⟨S128x4x8x64x64, .f32⟩
  | 18 => ⟨S_, .f32⟩
  | 19 => ⟨S4x8x128x128, .f32⟩
  | 20 => ⟨S_, .f32⟩
  | 21 => ⟨S128x4x8x64x128, .f32⟩
  | 22 => ⟨S_, .i32⟩
  | 23 => ⟨S128x4x8x64x128, .f32⟩
  | 24 => ⟨S128x4x8x64x128, .f32⟩
  | 25 => ⟨S128x4x8x64x128, .f32⟩
  | 26 => ⟨S128x4x8x64x128, .f32⟩
  | 27 => ⟨S128x4x8x64, .f32⟩
  | 28 => ⟨S128x4x8x64x64, .f32⟩
  | 29 => ⟨S64x64, .i1⟩
  | 30 => ⟨S_, .i32⟩
  | 31 => ⟨S4x8x128x128, .f32⟩
  | 32 => ⟨S128x4x8x64x128, .f32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S1x4x8x64x128, .f32⟩
  | 40 => ⟨S4x8x64x128, .f32⟩
  | 41 => ⟨S_, .i32⟩
  | 42 => ⟨S_, .i32⟩
  | 43 => ⟨S_, .i32⟩
  | 44 => ⟨S_, .i32⟩
  | 45 => ⟨S1x4x8x64x128, .f32⟩
  | 46 => ⟨S4x8x64x128, .f32⟩
  | 47 => ⟨S_, .i32⟩
  | 48 => ⟨S_, .i32⟩
  | 49 => ⟨S_, .i32⟩
  | 50 => ⟨S_, .i32⟩
  | 51 => ⟨S1x4x8x64x128, .f32⟩
  | 52 => ⟨S4x8x64x128, .f32⟩
  | 53 => ⟨S_, .i32⟩
  | 54 => ⟨S_, .i32⟩
  | 55 => ⟨S_, .i32⟩
  | 56 => ⟨S_, .i32⟩
  | 57 => ⟨S1x4x8x64x128, .f32⟩
  | 58 => ⟨S4x8x64x128, .f32⟩
  | 59 => ⟨S_, .i32⟩
  | 60 => ⟨S_, .i32⟩
  | 61 => ⟨S_, .i32⟩
  | 62 => ⟨S1x4x8x64, .f32⟩
  | 63 => ⟨S4x8x64, .f32⟩
  | 64 => ⟨S_, .i32⟩
  | 65 => ⟨S_, .i32⟩
  | 66 => ⟨S_, .i32⟩
  | 67 => ⟨S_, .i32⟩
  | 68 => ⟨S1x4x8x64x64, .f32⟩
  | 69 => ⟨S4x8x64x64, .f32⟩
  | 70 => ⟨S4x8x64x64, .f32⟩
  | 71 => ⟨S4x8x64x64, .f32⟩
  | 72 => ⟨S_, .f32⟩
  | 73 => ⟨S4x8x64x64, .i1⟩
  | 74 => ⟨S4x8x64x64, .f32⟩
  | 75 => ⟨S4x8x64x64, .f32⟩
  | 76 => ⟨S4x8x64x128, .f32⟩
  | 77 => ⟨S4x8x64x128, .f32⟩
  | 78 => ⟨S4x8x64, .f32⟩
  | 79 => ⟨S4x8x64x1, .f32⟩
  | 80 => ⟨S4x8x64x128, .f32⟩
  | 81 => ⟨S4x8x64x128, .f32⟩
  | 82 => ⟨S4x8x64x128, .f32⟩
  | 83 => ⟨S4x8x64x128, .f32⟩
  | 84 => ⟨S4x8x64x128, .f32⟩
  | 85 => ⟨S4x8x1, .f32⟩
  | 86 => ⟨S4x8x64, .f32⟩
  | 87 => ⟨S4x8x64, .f32⟩
  | 88 => ⟨S4x8x64, .f32⟩
  | 89 => ⟨S4x8x64x1, .f32⟩
  | 90 => ⟨S4x8x1, .f32⟩
  | 91 => ⟨S4x8, .f32⟩
  | 92 => ⟨S4x8, .f32⟩
  | 93 => ⟨S4x8x1x1, .f32⟩
  | 94 => ⟨S4x8x128x128, .f32⟩
  | 95 => ⟨S4x8x128x128, .f32⟩
  | 96 => ⟨S4x8x64x128, .f32⟩
  | 97 => ⟨S4x8x64x128, .f32⟩
  | 98 => ⟨S4x8x128x128, .f32⟩
  | 99 => ⟨S4x8x128x128, .f32⟩
  | 100 => ⟨S1x4x8x64x128, .f32⟩
  | 101 => ⟨S_, .i32⟩
  | 102 => ⟨S_, .i32⟩
  | 103 => ⟨S_, .i32⟩
  | 104 => ⟨S_, .i32⟩
  | 105 => ⟨S128x4x8x64x128, .f32⟩
  | 106 => ⟨S_, .i32⟩
  | 107 => ⟨S_, .i32⟩
  | 108 => ⟨S4x8x128x64x128, .f32⟩
  | 109 => ⟨S4x8x8192x128, .f32⟩
  | 110 => ⟨S4x8192x8x128, .f32⟩
  | 111 => ⟨S4x8192x8x128, .f32⟩
  | 112 => ⟨S4x8192x8x128, .f32⟩
  | 113 => ⟨S4x8192x1024, .f32⟩
  | 114 => ⟨S1024x1024, .f32⟩
  | 115 => ⟨S4x8192x1024, .f32⟩
  | 116 => ⟨S4x8192x1024, .f32⟩
  | _ => ⟨S4x8192x1024, .f32⟩

abbrev hbmTy (i : Nat) : BufTy := match i / 128 with
  | 0 => hbmTy0_0 i
  | 1 => hbmTy0_1 i
  | 2 => hbmTy0_2 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_cst : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_call1_v0 : Ref sig .tc := ⟨.hbm, 57, rfl⟩
abbrev main_call1_cst : Ref sig .tc := ⟨.hbm, 58, rfl⟩
abbrev main_call1_v1 : Ref sig .tc := ⟨.hbm, 59, rfl⟩
abbrev main_call1_v2 : Ref sig .tc := ⟨.hbm, 60, rfl⟩
abbrev main_v32 : Ref sig .tc := ⟨.hbm, 61, rfl⟩
abbrev main_cst_3 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_c : Ref sig .tc := ⟨.hbm, 68, rfl⟩
abbrev main_call2_v0 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_call3_call0_cst : Ref sig .tc := ⟨.hbm, 86, rfl⟩
abbrev main_call3_call0_v0 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_c_4 : Ref sig .tc := ⟨.hbm, 91, rfl⟩
abbrev main_v57 : Ref sig .tc := ⟨.hbm, 92, rfl⟩
abbrev main_call4_v0 : Ref sig .tc := ⟨.hbm, 93, rfl⟩
abbrev main_call4_c : Ref sig .tc := ⟨.hbm, 94, rfl⟩
abbrev main_call4_v1 : Ref sig .tc := ⟨.hbm, 95, rfl⟩
abbrev main_call4_v2 : Ref sig .tc := ⟨.hbm, 96, rfl⟩
abbrev main_call4_v3 : Ref sig .tc := ⟨.hbm, 97, rfl⟩
abbrev main_call4_v4 : Ref sig .tc := ⟨.hbm, 98, rfl⟩
abbrev main_call4_c_0 : Ref sig .tc := ⟨.hbm, 99, rfl⟩
abbrev main_call4_v5 : Ref sig .tc := ⟨.hbm, 100, rfl⟩
abbrev main_v58 : Ref sig .tc := ⟨.hbm, 101, rfl⟩
abbrev main_c_5 : Ref sig .tc := ⟨.hbm, 102, rfl⟩
abbrev main_v59 : Ref sig .tc := ⟨.hbm, 103, rfl⟩
abbrev main_call5_v0 : Ref sig .tc := ⟨.hbm, 104, rfl⟩
abbrev main_call5_c : Ref sig .tc := ⟨.hbm, 105, rfl⟩
abbrev main_call5_v1 : Ref sig .tc := ⟨.hbm, 106, rfl⟩
abbrev main_call5_v2 : Ref sig .tc := ⟨.hbm, 107, rfl⟩
abbrev main_call5_v3 : Ref sig .tc := ⟨.hbm, 108, rfl⟩
abbrev main_call5_v4 : Ref sig .tc := ⟨.hbm, 109, rfl⟩
abbrev main_call5_c_0 : Ref sig .tc := ⟨.hbm, 110, rfl⟩
abbrev main_call5_v5 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_cst_6 : Ref sig .tc := ⟨.hbm, 118, rfl⟩
abbrev main_call6_v0 : Ref sig .tc := ⟨.hbm, 119, rfl⟩
abbrev main_call6_v1 : Ref sig .tc := ⟨.hbm, 120, rfl⟩
abbrev main_call6_v2 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_cst_7 : Ref sig .tc := ⟨.hbm, 126, rfl⟩
abbrev main_call7_v0 : Ref sig .tc := ⟨.hbm, 127, rfl⟩
abbrev main_call7_v1 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_c_8 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_v212 : Ref sig .tc := ⟨.hbm, 272, rfl⟩
abbrev main_v213 : Ref sig .tc := ⟨.hbm, 273, rfl⟩
abbrev main_cst_9 : Ref sig .tc := ⟨.hbm, 274, rfl⟩
abbrev main_v214 : Ref sig .tc := ⟨.hbm, 275, rfl⟩
abbrev main_cst_10 : Ref sig .tc := ⟨.hbm, 276, rfl⟩
abbrev main_v215 : Ref sig .tc := ⟨.hbm, 277, rfl⟩
abbrev main_c_11 : Ref sig .tc := ⟨.hbm, 278, rfl⟩
abbrev main_v216_0 : Ref sig .tc := ⟨.hbm, 279, rfl⟩
abbrev main_v216_1 : Ref sig .tc := ⟨.hbm, 280, rfl⟩
abbrev main_v216_2 : Ref sig .tc := ⟨.hbm, 281, rfl⟩
abbrev main_v216_3 : Ref sig .tc := ⟨.hbm, 282, rfl⟩
abbrev main_v216_4 : Ref sig .tc := ⟨.hbm, 283, rfl⟩
abbrev main_v216_5 : Ref sig .tc := ⟨.hbm, 284, rfl⟩
abbrev main_v216_6 : Ref sig .tc := ⟨.hbm, 285, rfl⟩
abbrev main_v216_7 : Ref sig .tc := ⟨.hbm, 286, rfl⟩
abbrev main_v216_8 : Ref sig .tc := ⟨.hbm, 287, rfl⟩
abbrev main_v216_9 : Ref sig .tc := ⟨.hbm, 288, rfl⟩
abbrev main_while0c_c_21 : Ref sig .tc := ⟨.hbm, 289, rfl⟩
abbrev main_while0c_v226 : Ref sig .tc := ⟨.hbm, 290, rfl⟩
abbrev main_while0b_call8_c : Ref sig .tc := ⟨.hbm, 291, rfl⟩
abbrev main_while0b_call8_c_0 : Ref sig .tc := ⟨.hbm, 292, rfl⟩
abbrev main_while0b_call8_c_1 : Ref sig .tc := ⟨.hbm, 293, rfl⟩
abbrev main_while0b_call8_c_2 : Ref sig .tc := ⟨.hbm, 294, rfl⟩
abbrev main_while0b_call8_v0 : Ref sig .tc := ⟨.hbm, 295, rfl⟩
abbrev main_while0b_v226 : Ref sig .tc := ⟨.hbm, 296, rfl⟩
abbrev main_while0b_call9_c : Ref sig .tc := ⟨.hbm, 297, rfl⟩
abbrev main_while0b_call9_c_0 : Ref sig .tc := ⟨.hbm, 298, rfl⟩
abbrev main_while0b_call9_c_1 : Ref sig .tc := ⟨.hbm, 299, rfl⟩
abbrev main_while0b_call9_c_2 : Ref sig .tc := ⟨.hbm, 300, rfl⟩
abbrev main_while0b_call9_v0 : Ref sig .tc := ⟨.hbm, 301, rfl⟩
abbrev main_while0b_v227 : Ref sig .tc := ⟨.hbm, 302, rfl⟩
abbrev main_while0b_call10_c : Ref sig .tc := ⟨.hbm, 303, rfl⟩
abbrev main_while0b_call10_c_0 : Ref sig .tc := ⟨.hbm, 304, rfl⟩
abbrev main_while0b_call10_c_1 : Ref sig .tc := ⟨.hbm, 305, rfl⟩
abbrev main_while0b_call10_c_2 : Ref sig .tc := ⟨.hbm, 306, rfl⟩
abbrev main_while0b_call10_v0 : Ref sig .tc := ⟨.hbm, 307, rfl⟩
abbrev main_while0b_v228 : Ref sig .tc := ⟨.hbm, 308, rfl⟩
abbrev main_while0b_call11_c : Ref sig .tc := ⟨.hbm, 309, rfl⟩
abbrev main_while0b_call11_c_0 : Ref sig .tc := ⟨.hbm, 310, rfl⟩
abbrev main_while0b_call11_c_1 : Ref sig .tc := ⟨.hbm, 311, rfl⟩
abbrev main_while0b_call11_c_2 : Ref sig .tc := ⟨.hbm, 312, rfl⟩
abbrev main_while0b_call11_v0 : Ref sig .tc := ⟨.hbm, 313, rfl⟩
abbrev main_while0b_v229 : Ref sig .tc := ⟨.hbm, 314, rfl⟩
abbrev main_while0b_call12_c : Ref sig .tc := ⟨.hbm, 315, rfl⟩
abbrev main_while0b_call12_c_0 : Ref sig .tc := ⟨.hbm, 316, rfl⟩
abbrev main_while0b_call12_c_1 : Ref sig .tc := ⟨.hbm, 317, rfl⟩
abbrev main_while0b_call12_v0 : Ref sig .tc := ⟨.hbm, 318, rfl⟩
abbrev main_while0b_v230 : Ref sig .tc := ⟨.hbm, 319, rfl⟩
abbrev main_while0b_call13_c : Ref sig .tc := ⟨.hbm, 320, rfl⟩
abbrev main_while0b_call13_c_0 : Ref sig .tc := ⟨.hbm, 321, rfl⟩
abbrev main_while0b_call13_c_1 : Ref sig .tc := ⟨.hbm, 322, rfl⟩
abbrev main_while0b_call13_c_2 : Ref sig .tc := ⟨.hbm, 323, rfl⟩
abbrev main_while0b_call13_v0 : Ref sig .tc := ⟨.hbm, 324, rfl⟩
abbrev main_while0b_v231 : Ref sig .tc := ⟨.hbm, 325, rfl⟩
abbrev main_while0b_v232 : Ref sig .tc := ⟨.hbm, 326, rfl⟩
abbrev main_while0b_v233 : Ref sig .tc := ⟨.hbm, 327, rfl⟩
abbrev main_while0b_cst_21 : Ref sig .tc := ⟨.hbm, 328, rfl⟩
abbrev main_while0b_call14_v0 : Ref sig .tc := ⟨.hbm, 329, rfl⟩
abbrev main_while0b_call14_v1 : Ref sig .tc := ⟨.hbm, 330, rfl⟩
abbrev main_while0b_v234 : Ref sig .tc := ⟨.hbm, 331, rfl⟩
abbrev main_while0b_v235 : Ref sig .tc := ⟨.hbm, 332, rfl⟩
abbrev main_while0b_v236 : Ref sig .tc := ⟨.hbm, 333, rfl⟩
abbrev main_while0b_v237 : Ref sig .tc := ⟨.hbm, 334, rfl⟩
abbrev main_while0b_v238 : Ref sig .tc := ⟨.hbm, 335, rfl⟩
abbrev main_while0b_v239 : Ref sig .tc := ⟨.hbm, 336, rfl⟩
abbrev main_while0b_v240 : Ref sig .tc := ⟨.hbm, 337, rfl⟩
abbrev main_while0b_v241 : Ref sig .tc := ⟨.hbm, 338, rfl⟩
abbrev main_while0b_v242 : Ref sig .tc := ⟨.hbm, 339, rfl⟩
abbrev main_while0b_v243 : Ref sig .tc := ⟨.hbm, 340, rfl⟩
abbrev main_while0b_v244 : Ref sig .tc := ⟨.hbm, 341, rfl⟩
abbrev main_while0b_v245 : Ref sig .tc := ⟨.hbm, 342, rfl⟩
abbrev main_while0b_v246 : Ref sig .tc := ⟨.hbm, 343, rfl⟩
abbrev main_while0b_v247 : Ref sig .tc := ⟨.hbm, 344, rfl⟩
abbrev main_while0b_v248 : Ref sig .tc := ⟨.hbm, 345, rfl⟩
abbrev main_while0b_v249 : Ref sig .tc := ⟨.hbm, 346, rfl⟩
abbrev main_while0b_v250 : Ref sig .tc := ⟨.hbm, 347, rfl⟩
abbrev main_while0b_v251 : Ref sig .tc := ⟨.hbm, 348, rfl⟩
abbrev main_while0b_v252 : Ref sig .tc := ⟨.hbm, 349, rfl⟩
abbrev main_while0b_v253 : Ref sig .tc := ⟨.hbm, 350, rfl⟩
abbrev main_while0b_v254 : Ref sig .tc := ⟨.hbm, 351, rfl⟩
abbrev main_while0b_v255 : Ref sig .tc := ⟨.hbm, 352, rfl⟩
abbrev main_while0b_v256 : Ref sig .tc := ⟨.hbm, 353, rfl⟩
abbrev main_while0b_v257 : Ref sig .tc := ⟨.hbm, 354, rfl⟩
abbrev main_while0b_v258 : Ref sig .tc := ⟨.hbm, 355, rfl⟩
abbrev main_while0b_call15_v0 : Ref sig .tc := ⟨.hbm, 356, rfl⟩
abbrev main_while0b_call15_c : Ref sig .tc := ⟨.hbm, 357, rfl⟩
abbrev main_while0b_call15_c_0 : Ref sig .tc := ⟨.hbm, 358, rfl⟩
abbrev main_while0b_call15_c_1 : Ref sig .tc := ⟨.hbm, 359, rfl⟩
abbrev main_while0b_call15_c_2 : Ref sig .tc := ⟨.hbm, 360, rfl⟩
abbrev main_while0b_v259 : Ref sig .tc := ⟨.hbm, 361, rfl⟩
abbrev main_while0b_c_22 : Ref sig .tc := ⟨.hbm, 362, rfl⟩
abbrev main_while0b_v260 : Ref sig .tc := ⟨.hbm, 363, rfl⟩
abbrev main_v217 : Ref sig .tc := ⟨.hbm, 364, rfl⟩
abbrev main_v218 : Ref sig .tc := ⟨.hbm, 365, rfl⟩
abbrev main_v219 : Ref sig .tc := ⟨.hbm, 366, rfl⟩
abbrev main_v220 : Ref sig .tc := ⟨.hbm, 367, rfl⟩
abbrev main_v221 : Ref sig .tc := ⟨.hbm, 368, rfl⟩
abbrev main_v222 : Ref sig .tc := ⟨.hbm, 369, rfl⟩
abbrev main_v223 : Ref sig .tc := ⟨.hbm, 370, rfl⟩
abbrev main_v224 : Ref sig .tc := ⟨.hbm, 371, rfl⟩
abbrev main_v225 : Ref sig .tc := ⟨.hbm, 372, rfl⟩

abbrev nD : Nat := 1
abbrev τ : Topo := Topo.v7x

variable {F : FTy → Type} [FloatOps F]

abbrev main_while0_count : Scf.Loop 32 := ⟨0#32, 128#32, 1#32⟩
-- ==== Proof.IdealRun.lean ====
module

public import proofs.«01_k».proof.Proof.Gen.KernelIdeal.Frame
public import proofs.«01_k».proof.Proof.Gen.KernelIdeal.Skeleton

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

/-- The body's conditional at grid point `i`: the second coordinate is zero. -/
abbrev AtZero (i : grid0.Coords) : Prop :=
  (Scalar.cmpi .ne (Scalar.extui (Scalar.cmpi .eq (BitVec.ofNat 32 (i 1).val) 0#32)) 0#32) = 1#1

/-- What one run of the body stores: the pieces of the output block and of each of the nine scratch arrays, last first. -/
structure Pieces (F : FTy → Type) [FloatOps F] [Named F] where
  out : List (View.Piece (Elt F) S1x64x1024 .f32)
  st : List (View.Piece (Elt F) S8x128x128 .f32)
  prev : List (View.Piece (Elt F) S1x1024 .f32)
  v2 : List (View.Piece (Elt F) S64x1024 .f32)
  wkcd : List (View.Piece (Elt F) S64x1024 .f32)
  rkdec : List (View.Piece (Elt F) S64x1024 .f32)
  wkdw : List (View.Piece (Elt F) S64x1024 .f32)
  attn : List (View.Piece (Elt F) S512x64 .f32)
  gate : List (View.Piece (Elt F) S64x8 .f32)
  sdec : List (View.Piece (Elt F) S1x8 .f32)

/-- The body up to its conditional: it hands on the grid's second coordinate. -/
noncomputable def front (i : grid0.Coords) (arg2 : Memref sig .tc .vmem S1x64x1024 .f32) (harg2 : arg2.IsWhole) (arg3 : Memref sig .tc .vmem S1x64x1024 .f32) (harg3 : arg3.IsWhole) (arg4 : Memref sig .tc .vmem S1024x1024 .f32) (harg4 : arg4.IsWhole) (arg5 : Memref sig .tc .vmem S1024x16 .f32) (harg5 : arg5.IsWhole) (arg6 : Memref sig .tc .vmem S1024x8 .f32) (harg6 : arg6.IsWhole) (arg7 : Memref sig .tc .vmem S1024x1024 .f32) (harg7 : arg7.IsWhole) (arg8 : Memref sig .tc .vmem S1x8 .f32) (harg8 : arg8.IsWhole) (arg9 : Memref sig .tc .vmem S1x8 .f32) (harg9 : arg9.IsWhole) (arg10 : Memref sig .tc .vmem S1x64x1024 .f32) (harg10 : arg10.IsWhole) (arg11 : Memref sig .tc .vmem S8x128x128 .f32) (harg11 : arg11.IsWhole) (arg12 : Memref sig .tc .vmem S1x1024 .f32) (harg12 : arg12.IsWhole) (arg13 : Memref sig .tc .vmem S64x1024 .f32) (harg13 : arg13.IsWhole) (arg14 : Memref sig .tc .vmem S64x1024 .f32) (harg14 : arg14.IsWhole) (arg15 : Memref sig .tc .vmem S64x1024 .f32) (harg15 : arg15.IsWhole) (arg16 : Memref sig .tc .vmem S64x1024 .f32) (harg16 : arg16.IsWhole) (arg17 : Memref sig .tc .vmem S512x64 .f32) (harg17 : arg17.IsWhole) (arg18 : Memref sig .tc .vmem S64x8 .f32) (harg18 : arg18.IsWhole) (arg19 : Memref sig .tc .vmem S1x8 .f32) (harg19 : arg19.IsWhole) :
    Prog (TpuEff nD τ sig (Elt F) Λ₀ .tc) (BitVec 32) := do
  let ⟨arg1, v281, v923, v948⟩ : Σ' (arg1 : BitVec 32) (v281 : FVec F S64x1024 .f32) (v923 : FVec F S64x1 .f32), FVec F S64x1 .f32 ← k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let v954 : Vec F S64x128 .f32 ← Prog.lift (.load arg16 (Rect.unit (s := S64x1024) ![0, 896] S64x128.size inb_S64x1024_S64x128_0_896).toLoadRect (View.loadsAt_vmem h_S64x128))
  Prog.lift (.store arg16 (Rect.unit (s := S64x1024) ![0, 896] S64x128.size inb_S64x1024_S64x128_0_896) (k0_pay1 v281 v923 v948) Finset.univ (View.stores_vmem_bits_univ h_S64x128 rfl) (.inl rfl))
  pure arg1

/-- The body's conditional: at the first point of a batch row it zeroes the state. -/
noncomputable def back (arg1 : BitVec 32) (arg11 : Memref sig .tc .vmem S8x128x128 .f32) :
    Prog (TpuEff nD τ sig (Elt F) Λ₀ .tc) PUnit := do
  let v957 : BitVec 1 := Scalar.cmpi .eq arg1 0#32
  let v958 : BitVec 32 := Scalar.extui v957
  let v959 : BitVec 1 := Scalar.cmpi .ne v958 0#32
  if k0_h1 : v959 = 1#1 then do
    let v961 : Vec F S8x128x128 .f32 ← Prog.lift (.load arg11 (Rect.unit (s := S8x128x128) ![0, 0, 0] S8x128x128.size inb_S8x128x128_S8x128x128_0_0_0).toLoadRect (View.loadsAt_vmem h_S8x128x128))
    Prog.lift (.store arg11 (Rect.unit (s := S8x128x128) ![0, 0, 0] S8x128x128.size inb_S8x128x128_S8x128x128_0_0_0) (k0_pay2 (F := F)) Finset.univ (View.stores_vmem_bits_univ h_S8x128x128 rfl) (.inl rfl))
    pure ⟨⟩
  else do
    pure ⟨⟩
  pure ⟨⟩

/-- The body is its front and then its conditional. -/
theorem body_eq (i : grid0.Coords) (arg2 : Memref sig .tc .vmem S1x64x1024 .f32) (harg2 : arg2.IsWhole) (arg3 : Memref sig .tc .vmem S1x64x1024 .f32) (harg3 : arg3.IsWhole) (arg4 : Memref sig .tc .vmem S1024x1024 .f32) (harg4 : arg4.IsWhole) (arg5 : Memref sig .tc .vmem S1024x16 .f32) (harg5 : arg5.IsWhole) (arg6 : Memref sig .tc .vmem S1024x8 .f32) (harg6 : arg6.IsWhole) (arg7 : Memref sig .tc .vmem S1024x1024 .f32) (harg7 : arg7.IsWhole) (arg8 : Memref sig .tc .vmem S1x8 .f32) (harg8 : arg8.IsWhole) (arg9 : Memref sig .tc .vmem S1x8 .f32) (harg9 : arg9.IsWhole) (arg10 : Memref sig .tc .vmem S1x64x1024 .f32) (harg10 : arg10.IsWhole) (arg11 : Memref sig .tc .vmem S8x128x128 .f32) (harg11 : arg11.IsWhole) (arg12 : Memref sig .tc .vmem S1x1024 .f32) (harg12 : arg12.IsWhole) (arg13 : Memref sig .tc .vmem S64x1024 .f32) (harg13 : arg13.IsWhole) (arg14 : Memref sig .tc .vmem S64x1024 .f32) (harg14 : arg14.IsWhole) (arg15 : Memref sig .tc .vmem S64x1024 .f32) (harg15 : arg15.IsWhole) (arg16 : Memref sig .tc .vmem S64x1024 .f32) (harg16 : arg16.IsWhole) (arg17 : Memref sig .tc .vmem S512x64 .f32) (harg17 : arg17.IsWhole) (arg18 : Memref sig .tc .vmem S64x8 .f32) (harg18 : arg18.IsWhole) (arg19 : Memref sig .tc .vmem S1x8 .f32) (harg19 : arg19.IsWhole) :
    cc0__block_kernel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = (front i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) >>= fun a => back a arg11 := by
  rw [cc0__block_kernel_eq_skeleton]; unfold cc0__block_kernel_skel front back
  simp only [bind_assoc, pure_bind]

/-- The piece that zeroes the state. -/
noncomputable abbrev zeroed : View.Piece (Elt F) S8x128x128 .f32 :=
  ⟨Rect.unit (s := S8x128x128) ![0, 0, 0] S8x128x128.size inb_S8x128x128_S8x128x128_0_0_0, k0_pay2 (F := F)⟩

set_option maxHeartbeats 4000000 in
/-- The body's front at any grid point: from the scratch arrays' contents `s0` to `s8` it runs to the end, leaves its inputs, and
    writes the pieces that this definition names. -/
noncomputable def run (c : Dev nD) (i : grid0.Coords) (arg2 : Memref sig .tc .vmem S1x64x1024 .f32) (harg2 : arg2.IsWhole) (arg3 : Memref sig .tc .vmem S1x64x1024 .f32) (harg3 : arg3.IsWhole) (arg4 : Memref sig .tc .vmem S1024x1024 .f32) (harg4 : arg4.IsWhole) (arg5 : Memref sig .tc .vmem S1024x16 .f32) (harg5 : arg5.IsWhole) (arg6 : Memref sig .tc .vmem S1024x8 .f32) (harg6 : arg6.IsWhole) (arg7 : Memref sig .tc .vmem S1024x1024 .f32) (harg7 : arg7.IsWhole) (arg8 : Memref sig .tc .vmem S1x8 .f32) (harg8 : arg8.IsWhole) (arg9 : Memref sig .tc .vmem S1x8 .f32) (harg9 : arg9.IsWhole) (arg10 : Memref sig .tc .vmem S1x64x1024 .f32) (harg10 : arg10.IsWhole) (arg11 : Memref sig .tc .vmem S8x128x128 .f32) (harg11 : arg11.IsWhole) (arg12 : Memref sig .tc .vmem S1x1024 .f32) (harg12 : arg12.IsWhole) (arg13 : Memref sig .tc .vmem S64x1024 .f32) (harg13 : arg13.IsWhole) (arg14 : Memref sig .tc .vmem S64x1024 .f32) (harg14 : arg14.IsWhole) (arg15 : Memref sig .tc .vmem S64x1024 .f32) (harg15 : arg15.IsWhole) (arg16 : Memref sig .tc .vmem S64x1024 .f32) (harg16 : arg16.IsWhole) (arg17 : Memref sig .tc .vmem S512x64 .f32) (harg17 : arg17.IsWhole) (arg18 : Memref sig .tc .vmem S64x8 .f32) (harg18 : arg18.IsWhole) (arg19 : Memref sig .tc .vmem S1x8 .f32) (harg19 : arg19.IsWhole)
    (x0 : Vec F S1x64x1024 .f32) (x1 : Vec F S1x64x1024 .f32) (x2 : Vec F S1024x1024 .f32) (x3 : Vec F S1024x16 .f32) (x4 : Vec F S1024x8 .f32) (x5 : Vec F S1024x1024 .f32) (x6 : Vec F S1x8 .f32) (x7 : Vec F S1x8 .f32) (s0 : Vec F S8x128x128 .f32) (s1 : Vec F S1x1024 .f32) (s2 : Vec F S64x1024 .f32) (s3 : Vec F S64x1024 .f32) (s4 : Vec F S64x1024 .f32) (s5 : Vec F S64x1024 .f32) (s6 : Vec F S512x64 .f32) (s7 : Vec F S64x8 .f32) (s8 : Vec F S1x8 .f32) :
    { L : Pieces F //
      ∀ (E : Set ℕ) (K : BitVec 32 → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare s0 ∗ owns (c : Thread nD τ) arg12 fullShare s1 ∗ owns (c : Thread nD τ) arg13 fullShare s2 ∗ owns (c : Thread nD τ) arg14 fullShare s3 ∗ owns (c : Thread nD τ) arg15 fullShare s4 ∗ owns (c : Thread nD τ) arg16 fullShare s5 ∗ owns (c : Thread nD τ) arg17 fullShare s6 ∗ owns (c : Thread nD τ) arg18 fullShare s7 ∗ owns (c : Thread nD τ) arg19 fullShare s8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L.out) ∗ (∃ f, arg11.view.loc (c : Thread nD τ) ↦[arg11.view.set]{fullShare} arg11.view.writes (Elt F) f L.st) ∗ (∃ f, arg12.view.loc (c : Thread nD τ) ↦[arg12.view.set]{fullShare} arg12.view.writes (Elt F) f L.prev) ∗ (∃ f, arg13.view.loc (c : Thread nD τ) ↦[arg13.view.set]{fullShare} arg13.view.writes (Elt F) f L.v2) ∗ (∃ f, arg14.view.loc (c : Thread nD τ) ↦[arg14.view.set]{fullShare} arg14.view.writes (Elt F) f L.wkcd) ∗ (∃ f, arg15.view.loc (c : Thread nD τ) ↦[arg15.view.set]{fullShare} arg15.view.writes (Elt F) f L.rkdec) ∗ (∃ f, arg16.view.loc (c : Thread nD τ) ↦[arg16.view.set]{fullShare} arg16.view.writes (Elt F) f L.wkdw) ∗ (∃ f, arg17.view.loc (c : Thread nD τ) ↦[arg17.view.set]{fullShare} arg17.view.writes (Elt F) f L.attn) ∗ (∃ f, arg18.view.loc (c : Thread nD τ) ↦[arg18.view.set]{fullShare} arg18.view.writes (Elt F) f L.gate) ∗ (∃ f, arg19.view.loc (c : Thread nD τ) ↦[arg19.view.set]{fullShare} arg19.view.writes (Elt F) f L.sdec)) -∗ K (BitVec.ofNat 32 (i 1).val)))
          ⊢ wp frame (wpE (defs₀ (F := F)) Variants.none c none) E (front i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨⟨?_, ?_, ?_, ?_, ?_, ?_, ?_, ?_, ?_, ?_⟩, fun E K => ?run⟩
  case run =>
    unfold front
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19

/-- The conditional at the first point of a batch row: the state, whatever it holds, is zeroed. -/
theorem back_zero (c : Dev nD) (i : grid0.Coords) (arg11 : Memref sig .tc .vmem S8x128x128 .f32) (harg11 : arg11.IsWhole) (hc : AtZero i)
    (d : Vec F S8x128x128 .f32) (E : Set ℕ) (K : PUnit → sProp 𝕄) :
    iprop(owns (c : Thread nD τ) arg11 fullShare d
        ∗ ((∃ f, arg11.view.loc (c : Thread nD τ) ↦[arg11.view.set]{fullShare} arg11.view.writes (Elt F) f [zeroed]) -∗ K ⟨⟩))
      ⊢ wp frame (wpE (defs₀ (F := F)) Variants.none c none) E (back (F := F) (BitVec.ofNat 32 (i 1).val) arg11) K := by
  unfold back owns
  iintro ⟨⟨%f11, -, H11⟩, Hk⟩
  sl_exec (disch := sl_exact hc)
  sl_step
  iapply Hk
  iexists _; iexact H11

/-- The conditional at a later point: nothing happens. -/
theorem back_skip (c : Dev nD) (i : grid0.Coords) (arg11 : Memref sig .tc .vmem S8x128x128 .f32) (hc : ¬ AtZero i)
    (E : Set ℕ) (K : PUnit → sProp 𝕄) :
    iprop(K ⟨⟩) ⊢ wp frame (wpE (defs₀ (F := F)) Variants.none c none) E (back (F := F) (BitVec.ofNat 32 (i 1).val) arg11) K := by
  unfold back
  iintro Hk
  sl_exec (disch := sl_exact hc)
  sl_step
  iexact Hk

end Cert.KernelIdeal.Body

end
-- ==== Proof.IdealFrame.lean ====
module

public import proofs.«01_k».proof.Proof.IdealRun
public import Idealize.ShloMosaic.Lib.Pipeline.DatRel
public import Idealize.ShloMosaic.Lib.Pipeline.ArrRel

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)
open Cert.KernelIdeal Cert.KernelIdeal.Gen

variable {F : FTy → Type} [FloatOps F] [Named F]

local notation "𝕄" => MT nD τ sig Unit (Elt F) ℕ (UR sig nD τ) ℕ

/-- The conditional is taken at the first of each batch row's 129 points. -/
theorem atZero_iff : ∀ t : Fin cfg0.N, AtZero (grid0.coords t) ↔ t.val % 129 = 0 :=
  (fun t => by
    have ht : t.val < 516 := Nat.lt_of_lt_of_eq t.isLt N_0
    have e1 : (grid0.coords t 1).val = t.val / 1 % 129 := Pipeline.Grid.coords_val t 1 (by decide) rfl
    simp only [AtZero, e1]
    word_cmp
   : ∀ t : Fin grid0.N, AtZero (grid0.coords t) ↔ t.val % 129 = 0)

/-! The staging buffers at a point and the scratch arrays, as the body's call names them. -/

abbrev ms0 (t : Fin cfg0.N) : Memref sig .tc .vmem S1x64x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x64x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x16 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x8 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x8 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x8 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x64x1024 .f32 := win0_8.stage (cfg0.slots t 8)
abbrev hs8 (t : Fin cfg0.N) : (ms8 t).IsWhole := hstage0_8 ((cfg0.slots t 8).cast nbuf0_8)
abbrev sc0 : Memref sig .tc .vmem S8x128x128 .f32 := Memref.whole cc0_scratch0
abbrev sc1 : Memref sig .tc .vmem S1x1024 .f32 := Memref.whole cc0_scratch1
abbrev sc2 : Memref sig .tc .vmem S64x1024 .f32 := Memref.whole cc0_scratch2
abbrev sc3 : Memref sig .tc .vmem S64x1024 .f32 := Memref.whole cc0_scratch3
abbrev sc4 : Memref sig .tc .vmem S64x1024 .f32 := Memref.whole cc0_scratch4
abbrev sc5 : Memref sig .tc .vmem S64x1024 .f32 := Memref.whole cc0_scratch5
abbrev sc6 : Memref sig .tc .vmem S512x64 .f32 := Memref.whole cc0_scratch6
abbrev sc7 : Memref sig .tc .vmem S64x8 .f32 := Memref.whole cc0_scratch7
abbrev sc8 : Memref sig .tc .vmem S1x8 .f32 := Memref.whole cc0_scratch8

/-- What the nine scratch arrays hold. -/
structure Scr (F : FTy → Type) [FloatOps F] [Named F] where
  st : Vec F S8x128x128 .f32
  prev : Vec F S1x1024 .f32
  v2 : Vec F S64x1024 .f32
  wkcd : Vec F S64x1024 .f32
  rkdec : Vec F S64x1024 .f32
  wkdw : Vec F S64x1024 .f32
  attn : Vec F S512x64 .f32
  gate : Vec F S64x8 .f32
  sdec : Vec F S1x8 .f32

/-- The launch's invariant is nine scratch arrays at some contents and the generator's register. -/
theorem PhiA_eq (c : Dev nD) :
    (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d)) ∗ (∃ gr, prngReg c gr)) := by
  unfold Pipeline.ΦA; rw [scopedRest0_eq]; simp only [sc0, sc1, sc2, sc3, sc4, sc5, sc6, sc7, sc8, owns_whole]; try rfl

/-- A list of pieces read back as one array. -/
def glue {s : Shape} (v : View sig .tc .vmem s .f32) (L : List (View.Piece (Elt F) s .f32)) : Vec F s .f32 :=
  v.read (Elt F) (v.writes (Elt F) v.junk L)

variable (m : (ℓ : Loc nD τ sig) → Buf (Elt F) ℓ) (ρ : Dev nD → PrngReg)

/-- What the body stores at point `t`, started on scratch contents `s`. -/
def pcs (c : Dev nD) (t : Fin cfg0.N) (s : Scr F) : Pieces F :=
  (run c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) (iblk m c 0 t) (iblk m c 1 t) (iblk m c 2 t) (iblk m c 3 t) (iblk m c 4 t) (iblk m c 5 t) (iblk m c 6 t) (iblk m c 7 t) s.st s.prev s.v2 s.wkcd s.rkdec s.wkdw s.attn s.gate s.sdec).1

section
variable (c : Dev nD) (t : Fin cfg0.N) (s : Scr F)

/-- The run of the body's first part at point `t`. -/
theorem pcs_run (E : Set ℕ) (K : BitVec 32 → sProp 𝕄) :
    iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ (∃ d, owns (c : Thread nD τ) (ms8 t) fullShare d) ∗ owns (c : Thread nD τ) sc0 fullShare s.st ∗ owns (c : Thread nD τ) sc1 fullShare s.prev ∗ owns (c : Thread nD τ) sc2 fullShare s.v2 ∗ owns (c : Thread nD τ) sc3 fullShare s.wkcd ∗ owns (c : Thread nD τ) sc4 fullShare s.rkdec ∗ owns (c : Thread nD τ) sc5 fullShare s.wkdw ∗ owns (c : Thread nD τ) sc6 fullShare s.attn ∗ owns (c : Thread nD τ) sc7 fullShare s.gate ∗ owns (c : Thread nD τ) sc8 fullShare s.sdec
        ∗ (iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ (∃ f, (ms8 t).view.loc (c : Thread nD τ) ↦[(ms8 t).view.set]{fullShare} (ms8 t).view.writes (Elt F) f (pcs m c t s).out) ∗ (∃ f, sc0.view.loc (c : Thread nD τ) ↦[sc0.view.set]{fullShare} sc0.view.writes (Elt F) f (pcs m c t s).st) ∗ (∃ f, sc1.view.loc (c : Thread nD τ) ↦[sc1.view.set]{fullShare} sc1.view.writes (Elt F) f (pcs m c t s).prev) ∗ (∃ f, sc2.view.loc (c : Thread nD τ) ↦[sc2.view.set]{fullShare} sc2.view.writes (Elt F) f (pcs m c t s).v2) ∗ (∃ f, sc3.view.loc (c : Thread nD τ) ↦[sc3.view.set]{fullShare} sc3.view.writes (Elt F) f (pcs m c t s).wkcd) ∗ (∃ f, sc4.view.loc (c : Thread nD τ) ↦[sc4.view.set]{fullShare} sc4.view.writes (Elt F) f (pcs m c t s).rkdec) ∗ (∃ f, sc5.view.loc (c : Thread nD τ) ↦[sc5.view.set]{fullShare} sc5.view.writes (Elt F) f (pcs m c t s).wkdw) ∗ (∃ f, sc6.view.loc (c : Thread nD τ) ↦[sc6.view.set]{fullShare} sc6.view.writes (Elt F) f (pcs m c t s).attn) ∗ (∃ f, sc7.view.loc (c : Thread nD τ) ↦[sc7.view.set]{fullShare} sc7.view.writes (Elt F) f (pcs m c t s).gate) ∗ (∃ f, sc8.view.loc (c : Thread nD τ) ↦[sc8.view.set]{fullShare} sc8.view.writes (Elt F) f (pcs m c t s).sdec)) -∗ K (BitVec.ofNat 32 ((grid0.coords t) 1).val)))
      ⊢ wp frame (wpE (defs₀ (F := F)) Variants.none c none) E (front (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _)) K := by
  unfold pcs
  exact (run c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) (iblk m c 0 t) (iblk m c 1 t) (iblk m c 2 t) (iblk m c 3 t) (iblk m c 4 t) (iblk m c 5 t) (iblk m c 6 t) (iblk m c 7 t) s.st s.prev s.v2 s.wkcd s.rkdec s.wkdw s.attn s.gate s.sdec).2 E K

/-- The pieces stored into `out` cover it. -/
theorem cover_out (y : S1x64x1024.Idx) : ∃ pc ∈ (pcs m c t s).out, y ∈ pc.1.set :=
  View.cover_of_wholeMem (pcs m c t s).out (by unfold pcs; sl_whole_mem) y

/-- The pieces stored into `st` cover it. -/
theorem cover_st (y : S8x128x128.Idx) : ∃ pc ∈ (pcs m c t s).st, y ∈ pc.1.set :=
  View.cover_of_tiledL (pcs m c t s).st S1x128x128.size (by unfold pcs; sl_kernel_rfl) y

/-- The pieces stored into `prev` cover it. -/
theorem cover_prev (y : S1x1024.Idx) : ∃ pc ∈ (pcs m c t s).prev, y ∈ pc.1.set :=
  View.cover_of_wholeMem (pcs m c t s).prev (by unfold pcs; sl_whole_mem) y

/-- The pieces stored into `v2` cover it. -/
theorem cover_v2 (y : S64x1024.Idx) : ∃ pc ∈ (pcs m c t s).v2, y ∈ pc.1.set :=
  View.cover_of_tiledL (pcs m c t s).v2 S64x128.size (by unfold pcs; sl_kernel_rfl) y

/-- The pieces stored into `wkcd` cover it. -/
theorem cover_wkcd (y : S64x1024.Idx) : ∃ pc ∈ (pcs m c t s).wkcd, y ∈ pc.1.set :=
  View.cover_of_tiledL (pcs m c t s).wkcd S64x128.size (by unfold pcs; sl_kernel_rfl) y

/-- The pieces stored into `rkdec` cover it. -/
theorem cover_rkdec (y : S64x1024.Idx) : ∃ pc ∈ (pcs m c t s).rkdec, y ∈ pc.1.set :=
  View.cover_of_tiledL (pcs m c t s).rkdec S64x128.size (by unfold pcs; sl_kernel_rfl) y

/-- The pieces stored into `wkdw` cover it. -/
theorem cover_wkdw (y : S64x1024.Idx) : ∃ pc ∈ (pcs m c t s).wkdw, y ∈ pc.1.set :=
  View.cover_of_tiledL (pcs m c t s).wkdw S64x128.size (by unfold pcs; sl_kernel_rfl) y

/-- The pieces stored into `attn` cover it. -/
theorem cover_attn (y : S512x64.Idx) : ∃ pc ∈ (pcs m c t s).attn, y ∈ pc.1.set :=
  View.cover_of_tiledL (pcs m c t s).attn S64x64.size (by unfold pcs; sl_kernel_rfl) y

/-- The pieces stored into `gate` cover it. -/
theorem cover_gate (y : S64x8.Idx) : ∃ pc ∈ (pcs m c t s).gate, y ∈ pc.1.set :=
  View.cover_of_wholeMem (pcs m c t s).gate (by unfold pcs; sl_whole_mem) y

/-- The pieces stored into `sdec` cover it. -/
theorem cover_sdec (y : S1x8.Idx) : ∃ pc ∈ (pcs m c t s).sdec, y ∈ pc.1.set :=
  View.cover_of_wholeMem (pcs m c t s).sdec (by unfold pcs; sl_whole_mem) y

end

/-- The zeroing store covers the state. -/
theorem zeroed_cover (y : S8x128x128.Idx) : ∃ pc ∈ [zeroed (F := F)], y ∈ pc.1.set :=
  View.cover_of_wholeMem _ (by sl_whole_mem) y

/-- The scratch contents after point `t`, of those before it. -/
def scrOut (c : Dev nD) (t : Fin cfg0.N) (s : Scr F) : Scr F where
  st := if t.val % 129 = 0 then glue sc0.view [zeroed] else glue sc0.view (pcs m c t s).st
  prev := glue sc1.view (pcs m c t s).prev
  v2 := glue sc2.view (pcs m c t s).v2
  wkcd := glue sc3.view (pcs m c t s).wkcd
  rkdec := glue sc4.view (pcs m c t s).rkdec
  wkdw := glue sc5.view (pcs m c t s).wkdw
  attn := glue sc6.view (pcs m c t s).attn
  gate := glue sc7.view (pcs m c t s).gate
  sdec := glue sc8.view (pcs m c t s).sdec

/-- The output block that point `t` writes, of the scratch contents before it. -/
def blkOut (c : Dev nD) (t : Fin cfg0.N) (s : Scr F) : Vec F S1x64x1024 .f32 := glue (Memref.whole cc0_stg8_0 : Memref sig .tc .vmem S1x64x1024 .f32).view (pcs m c t s).out

/-! The launch, for any property `Inv` of the scratch contents before a point and `Rl` of the block a point writes that
the points keep. -/

variable (Inv : Dev nD → ℕ → Scr F → Prop) (Rl : Dev nD → Fin cfg0.N → Vec F S1x64x1024 .f32 → Prop)

/-- Between points the nine scratch arrays hold something that satisfies `Inv`. -/
def PhiR (c : Dev nD) (n : ℕ) : sProp 𝕄 :=
  iprop(∃ s : Scr F, ⌜Inv c n s⌝ ∗ (iprop(owns (c : Thread nD τ) sc0 fullShare s.st ∗ owns (c : Thread nD τ) sc1 fullShare s.prev ∗ owns (c : Thread nD τ) sc2 fullShare s.v2 ∗ owns (c : Thread nD τ) sc3 fullShare s.wkcd ∗ owns (c : Thread nD τ) sc4 fullShare s.rkdec ∗ owns (c : Thread nD τ) sc5 fullShare s.wkdw ∗ owns (c : Thread nD τ) sc6 fullShare s.attn ∗ owns (c : Thread nD τ) sc7 fullShare s.gate ∗ owns (c : Thread nD τ) sc8 fullShare s.sdec) ∗ (∃ gr, prngReg c gr)))

/-- The pipeline's data: the inputs' buffers hold their blocks; nothing is named of the output's. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (ms8 t).view.read (Elt F) (ms8 t).view.junk
  Φ t := PhiR Inv c t.val
  q w := Pipeline.shareOf spec0 w
  owed _ := 0

/-- Only the output's window is held to a predicate. -/
def marked (w : Fin cfg0.W) : Bool := match w with | ⟨8, _⟩ => true | _ => false

/-- The predicate of the output's window is `Rl`. -/
def RlW (c : Dev nD) (w : Fin cfg0.W) (t : Fin cfg0.N) : ((cfg0.win w).block.Idx → Elt F (cfg0.win w).elt) → Prop :=
  match w with
  | ⟨8, _⟩ => Rl c t
  | _ => fun _ => True

/-- The pipeline's data read relationally. -/
def rdat (c : Dev nD) : RDat τ (Elt F) Unit ℕ (UR sig nD τ) ℕ cfg0 c := (dat m Inv c).toRRel marked (RlW Rl c)

section
variable (c : Dev nD)

/-- The arrays the launch starts from. -/
theorem A_eq (w : Fin cfg0.W) : (dat m Inv c).A w = V m c (Pipeline.arrRef spec0 w) := by dsimp only [dat]
/-- Operand 0 is not written by the body: its block after a step is the block copied in. -/
theorem after0 (t : Fin cfg0.N) : (dat m Inv c).after 0 t = iblk m c 0 t := by dsimp only [dat]
/-- Operand 1 is not written by the body: its block after a step is the block copied in. -/
theorem after1 (t : Fin cfg0.N) : (dat m Inv c).after 1 t = iblk m c 1 t := by dsimp only [dat]
/-- Operand 2 is not written by the body: its block after a step is the block copied in. -/
theorem after2 (t : Fin cfg0.N) : (dat m Inv c).after 2 t = iblk m c 2 t := by dsimp only [dat]
/-- Operand 3 is not written by the body: its block after a step is the block copied in. -/
theorem after3 (t : Fin cfg0.N) : (dat m Inv c).after 3 t = iblk m c 3 t := by dsimp only [dat]
/-- Operand 4 is not written by the body: its block after a step is the block copied in. -/
theorem after4 (t : Fin cfg0.N) : (dat m Inv c).after 4 t = iblk m c 4 t := by dsimp only [dat]
/-- Operand 5 is not written by the body: its block after a step is the block copied in. -/
theorem after5 (t : Fin cfg0.N) : (dat m Inv c).after 5 t = iblk m c 5 t := by dsimp only [dat]
/-- Operand 6 is not written by the body: its block after a step is the block copied in. -/
theorem after6 (t : Fin cfg0.N) : (dat m Inv c).after 6 t = iblk m c 6 t := by dsimp only [dat]
/-- Operand 7 is not written by the body: its block after a step is the block copied in. -/
theorem after7 (t : Fin cfg0.N) : (dat m Inv c).after 7 t = iblk m c 7 t := by dsimp only [dat]
/-- Operand 0 holds its block when a step begins. -/
theorem before0 (t : Fin cfg0.N) (d) : (dat m Inv c).before 0 t d = iblk m c 0 t :=
  before0_0_of m (dat m Inv c) (A_eq m Inv c 0) (after0 m Inv c) t d
/-- Operand 1 holds its block when a step begins. -/
theorem before1 (t : Fin cfg0.N) (d) : (dat m Inv c).before 1 t d = iblk m c 1 t :=
  before0_1_of m (dat m Inv c) (A_eq m Inv c 1) (after1 m Inv c) t d
/-- Operand 2 holds its block when a step begins. -/
theorem before2 (t : Fin cfg0.N) (d) : (dat m Inv c).before 2 t d = iblk m c 2 t :=
  before0_2_of m (dat m Inv c) (A_eq m Inv c 2) (after2 m Inv c) t d
/-- Operand 3 holds its block when a step begins. -/
theorem before3 (t : Fin cfg0.N) (d) : (dat m Inv c).before 3 t d = iblk m c 3 t :=
  before0_3_of m (dat m Inv c) (A_eq m Inv c 3) (after3 m Inv c) t d
/-- Operand 4 holds its block when a step begins. -/
theorem before4 (t : Fin cfg0.N) (d) : (dat m Inv c).before 4 t d = iblk m c 4 t :=
  before0_4_of m (dat m Inv c) (A_eq m Inv c 4) (after4 m Inv c) t d
/-- Operand 5 holds its block when a step begins. -/
theorem before5 (t : Fin cfg0.N) (d) : (dat m Inv c).before 5 t d = iblk m c 5 t :=
  before0_5_of m (dat m Inv c) (A_eq m Inv c 5) (after5 m Inv c) t d
/-- Operand 6 holds its block when a step begins. -/
theorem before6 (t : Fin cfg0.N) (d) : (dat m Inv c).before 6 t d = iblk m c 6 t :=
  before0_6_of m (dat m Inv c) (A_eq m Inv c 6) (after6 m Inv c) t d
/-- Operand 7 holds its block when a step begins. -/
theorem before7 (t : Fin cfg0.N) (d) : (dat m Inv c).before 7 t d = iblk m c 7 t :=
  before0_7_of m (dat m Inv c) (A_eq m Inv c 7) (after7 m Inv c) t d

end

/-- What the body is called with at a point. -/
def bodyPre (c : Dev nD) (t : Fin cfg0.N) : sProp 𝕄 :=
  iprop((dat m Inv c).Φ t.castSucc ∗ (dat m Inv c).owesAt () t.castSucc ∗ (∃ d, owns (c : Thread nD τ) (ms0 t) fullShare ((dat m Inv c).before 0 t d)) ∗ (∃ d, owns (c : Thread nD τ) (ms1 t) fullShare ((dat m Inv c).before 1 t d)) ∗ (∃ d, owns (c : Thread nD τ) (ms2 t) fullShare ((dat m Inv c).before 2 t d)) ∗ (∃ d, owns (c : Thread nD τ) (ms3 t) fullShare ((dat m Inv c).before 3 t d)) ∗ (∃ d, owns (c : Thread nD τ) (ms4 t) fullShare ((dat m Inv c).before 4 t d)) ∗ (∃ d, owns (c : Thread nD τ) (ms5 t) fullShare ((dat m Inv c).before 5 t d)) ∗ (∃ d, owns (c : Thread nD τ) (ms6 t) fullShare ((dat m Inv c).before 6 t d)) ∗ (∃ d, owns (c : Thread nD τ) (ms7 t) fullShare ((dat m Inv c).before 7 t d))
    ∗ (∃ Y, ⌜((dat m Inv c).toRRel marked (RlW Rl c)).Finds 8 t Y⌝ ∗ owns (c : Thread nD τ) (ms8 t) fullShare Y))

/-- What the body returns at a point. -/
def bodyPost (c : Dev nD) (t : Fin cfg0.N) : sProp 𝕄 :=
  iprop((dat m Inv c).Φ t.succ ∗ (dat m Inv c).owesAt () t.succ ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t)
    ∗ (∃ X, ⌜Rl c t X⌝ ∗ owns (c : Thread nD τ) (ms8 t) fullShare X))

section
variable (hstep : ∀ c t s, Inv c t.val s → Rl c t (blkOut m c t s) ∧ Inv c (t.val + 1) (scrOut m c t s))

attribute [local irreducible] pcs

include hstep in
set_option maxHeartbeats 4000000 in
/-- The body at any point keeps `Inv` and leaves an output block that meets `Rl`. -/
theorem sound_body (c : Dev nD) (t : Fin cfg0.N) :
    bodyPre m Inv Rl c t ⊢ wp frame (wpE (defs₀ (F := F)) Variants.none c none) Set.univ (bodyAt0 t) (fun _ => bodyPost m Inv Rl c t) := by
  unfold bodyPre bodyPost bodyAt0
  simp only [before0, before1, before2, before3, before4, before5, before6, before7]
  rw [show (dat m Inv c).owesAt () t.succ = (dat m Inv c).owesAt () t.castSucc from rfl,
    show (dat m Inv c).Φ t.succ = PhiR Inv c (t.val + 1) from rfl,
    show (dat m Inv c).Φ t.castSucc = PhiR Inv c t.val from rfl, body_eq, wp_bind]
  unfold PhiR
  iintro ⟨⟨%s, %hs, ⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, -, H8⟩⟩
  iapply (pcs_run m c t s Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, H1, H2, H3, H4, H5, H6, H7, ⟨%e8, H8⟩, ⟨%es0, HS0⟩, ⟨%es1, HS1⟩, ⟨%es2, HS2⟩, ⟨%es3, HS3⟩, ⟨%es4, HS4⟩, ⟨%es5, HS5⟩, ⟨%es6, HS6⟩, ⟨%es7, HS7⟩, ⟨%es8, HS8⟩⟩
  by_cases ht : t.val % 129 = 0
  · iapply (back_zero c (grid0.coords t) sc0 (Memref.isWhole_whole _) ((atZero_iff t).mpr ht) _ Set.univ _)
    isplitl [HS0]
    · unfold owns; iexists _; isplitr
      swap; · iexact HS0
      ipureintro; rfl
    iintro ⟨%ez, HS0⟩
    isplitl [HS0 HS1 HS2 HS3 HS4 HS5 HS6 HS7 HS8 Hg]
    · iexists (scrOut m c t s); isplitr
      · ipureintro; exact (hstep c t s hs).2
      isplitr [Hg]
      swap; · iexact Hg
      simp only [scrOut, if_pos ht, glue]
      isplitl [HS0]
      · unfold owns; iexists _; isplitr
        swap; · iexact HS0
        ipureintro; exact View.read_writes_of_cover _ _ _ _ _ zeroed_cover
      isplitl [HS1]
      · unfold owns; iexists _; isplitr
        swap; · iexact HS1
        ipureintro; exact View.read_writes_of_cover _ _ _ _ _ (cover_prev m c t s)
      isplitl [HS2]
      · unfold owns; iexists _; isplitr
        swap; · iexact HS2
        ipureintro; exact View.read_writes_of_cover _ _ _ _ _ (cover_v2 m c t s)
      isplitl [HS3]
      · unfold owns; iexists _; isplitr
        swap; · iexact HS3
        ipureintro; exact View.read_writes_of_cover _ _ _ _ _ (cover_wkcd m c t s)
      isplitl [HS4]
      · unfold owns; iexists _; isplitr
        swap; · iexact HS4
        ipureintro; exact View.read_writes_of_cover _ _ _ _ _ (cover_rkdec m c t s)
      isplitl [HS5]
      · unfold owns; iexists _; isplitr
        swap; · iexact HS5
        ipureintro; exact View.read_writes_of_cover _ _ _ _ _ (cover_wkdw m c t s)
      isplitl [HS6]
      · unfold owns; iexists _; isplitr
        swap; · iexact HS6
        ipureintro; exact View.read_writes_of_cover _ _ _ _ _ (cover_attn m c t s)
      isplitl [HS7]
      · unfold owns; iexists _; isplitr
        swap; · iexact HS7
        ipureintro; exact View.read_writes_of_cover _ _ _ _ _ (cover_gate m c t s)
      unfold owns; iexists _; isplitr
      swap; · iexact HS8
      ipureintro; exact View.read_writes_of_cover _ _ _ _ _ (cover_sdec m c t s)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists (blkOut m c t s); isplitr
    · ipureintro; exact (hstep c t s hs).1
    unfold owns blkOut glue; iexists _; isplitr
    swap; · iexact H8
    ipureintro; exact View.read_writes_of_cover _ _ _ _ _ (cover_out m c t s)
  · iapply (back_skip c (grid0.coords t) sc0 (fun h => ht ((atZero_iff t).mp h)) Set.univ _)
    isplitl [HS0 HS1 HS2 HS3 HS4 HS5 HS6 HS7 HS8 Hg]
    · iexists (scrOut m c t s); isplitr
      · ipureintro; exact (hstep c t s hs).2
      isplitr [Hg]
      swap; · iexact Hg
      simp only [scrOut, if_neg ht, glue]
      isplitl [HS0]
      · unfold owns; iexists _; isplitr
        swap; · iexact HS0
        ipureintro; exact View.read_writes_of_cover _ _ _ _ _ (cover_st m c t s)
      isplitl [HS1]
      · unfold owns; iexists _; isplitr
        swap; · iexact HS1
        ipureintro; exact View.read_writes_of_cover _ _ _ _ _ (cover_prev m c t s)
      isplitl [HS2]
      · unfold owns; iexists _; isplitr
        swap; · iexact HS2
        ipureintro; exact View.read_writes_of_cover _ _ _ _ _ (cover_v2 m c t s)
      isplitl [HS3]
      · unfold owns; iexists _; isplitr
        swap; · iexact HS3
        ipureintro; exact View.read_writes_of_cover _ _ _ _ _ (cover_wkcd m c t s)
      isplitl [HS4]
      · unfold owns; iexists _; isplitr
        swap; · iexact HS4
        ipureintro; exact View.read_writes_of_cover _ _ _ _ _ (cover_rkdec m c t s)
      isplitl [HS5]
      · unfold owns; iexists _; isplitr
        swap; · iexact HS5
        ipureintro; exact View.read_writes_of_cover _ _ _ _ _ (cover_wkdw m c t s)
      isplitl [HS6]
      · unfold owns; iexists _; isplitr
        swap; · iexact HS6
        ipureintro; exact View.read_writes_of_cover _ _ _ _ _ (cover_attn m c t s)
      isplitl [HS7]
      · unfold owns; iexists _; isplitr
        swap; · iexact HS7
        ipureintro; exact View.read_writes_of_cover _ _ _ _ _ (cover_gate m c t s)
      unfold owns; iexists _; isplitr
      swap; · iexact HS8
      ipureintro; exact View.read_writes_of_cover _ _ _ _ _ (cover_sdec m c t s)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists (blkOut m c t s); isplitr
    · ipureintro; exact (hstep c t s hs).1
    unfold owns blkOut glue; iexists _; isplitr
    swap; · iexact H8
    ipureintro; exact View.read_writes_of_cover _ _ _ _ _ (cover_out m c t s)

/-- The body table's row at a point is the body. -/
theorem defs₀_row (t : Fin cfg0.N) :
    defs₀ (F := F) .tc cfg0.body (cfg0.bodyArgs t (cfg0.slots t)) = bodyAt0 t := by
  unfold defs₀; rw [Defs.onTc_tc]

include hstep in
/-- The launch's body obligation. -/
theorem body_obligation (c : Dev nD) :
    BodyObligationRel (dat m Inv c) (defs₀ (F := F)) Variants.none () Set.univ marked (RlW Rl c) := fun t => by
  rw [bigSep_W0, bigSep_W0, defs₀_row]
  exact triple_restated (sound_body m Inv Rl hstep c t) rfl .rfl fun _ => .rfl

variable (h0 : ∀ c s, Inv c 0 s)

include h0 in
/-- Before the first point the scratch arrays may hold anything. -/
theorem hin (c : Dev nD) : Pipeline.ΦA spec0 c ⊢ (rdat m Inv Rl c).Φ 0 := by
  rw [show (rdat m Inv Rl c).Φ 0 = PhiR Inv c 0 from rfl, PhiA_eq]
  unfold PhiR
  iintro ⟨⟨⟨%es0, HS0⟩, ⟨%es1, HS1⟩, ⟨%es2, HS2⟩, ⟨%es3, HS3⟩, ⟨%es4, HS4⟩, ⟨%es5, HS5⟩, ⟨%es6, HS6⟩, ⟨%es7, HS7⟩, ⟨%es8, HS8⟩⟩, Hg⟩
  iexists (⟨es0, es1, es2, es3, es4, es5, es6, es7, es8⟩ : Scr F); isplitr
  · ipureintro; exact h0 c _
  isplitr [Hg]
  swap; · iexact Hg
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iexact HS8

/-- After the last point what they hold is forgotten. -/
theorem hout (c : Dev nD) : (rdat m Inv Rl c).Φ (Fin.last cfg0.N) ⊢ Pipeline.ΦA spec0 c := by
  rw [show (rdat m Inv Rl c).Φ (Fin.last cfg0.N) = PhiR Inv c (Fin.last cfg0.N).val from rfl, PhiA_eq]
  unfold PhiR
  iintro ⟨%s, -, ⟨HS0, HS1, HS2, HS3, HS4, HS5, HS6, HS7, HS8⟩, Hg⟩
  isplitr [Hg]
  swap; · iexact Hg
  isplitl [HS0]; · iexists _; iexact HS0
  isplitl [HS1]; · iexists _; iexact HS1
  isplitl [HS2]; · iexists _; iexact HS2
  isplitl [HS3]; · iexists _; iexact HS3
  isplitl [HS4]; · iexists _; iexact HS4
  isplitl [HS5]; · iexists _; iexact HS5
  isplitl [HS6]; · iexists _; iexact HS6
  isplitl [HS7]; · iexists _; iexact HS7
  iexists _; iexact HS8

include hstep h0 in
set_option backward.isDefEq.respectTransparency.types false in
/-- The launch: every execution ends, each array at contents the data allow, every counter at zero. -/
theorem run_main : θ_run defs (onTc (τ := τ) (main (F := F))) (s₀ m ρ)
    (fun r => RDat.FramePost cfg0 (rdat m Inv Rl) (V m) r ∧ r.2.sem = fun _ => 0) :=
  Pipeline.RDat.θ_run_frame_track_shared (Q' := _) cfgs (0 : Fin 1) launch₀0 defs₀ Variants.none (rdat m Inv Rl) m ρ main
    (hbody := fun c => (body_obligation m Inv Rl hstep c).toRRel) (hq := fun _ _ _ => rfl)
    (howed := fun _ _ => rfl) (V := V m) (hmain := hmain m Variants.none) (hA := A_eq m Inv)
    (hin := hin m Inv Rl h0) (hout := hout m Inv Rl)

end

/-- A launch's end leaves the arguments as they were. -/
theorem args_of (r : PUnit × MemSt nD τ sig (Elt F)) (h : RDat.FramePost cfg0 (rdat m Inv Rl) (V m) r) : ∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := fun c =>
  ⟨(Pipeline.RDat.FramePost.arr_in h c 1 rfl).trans ((A_eq m Inv c 1).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

/-- The frame: every execution ends, the arguments unchanged and every counter at zero. -/
theorem frame_holds : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨args_of m _ _ r h.1, h.2⟩)
    (run_main m ρ (fun _ _ _ => True) (fun _ _ _ => True) (fun _ _ _ _ => ⟨trivial, trivial⟩) (fun _ _ => trivial))

end Cert.KernelIdeal.Body

end
-- ==== Proof.RefFrame.lean ====
/- The reference runs on the ideal machine: every execution ends, the arguments unchanged and every counter at zero. -/
module

public import proofs.«01_k».proof.Proof.Gen.ReferenceIdeal.Run

@[expose] public section

noncomputable section

namespace Cert.ReferenceIdeal.Value

open Idealize.ShloMosaic Idealize.SL.Sem Idealize.ShloMosaic.StableHlo
open Cert.ReferenceIdeal Cert.ReferenceIdeal.Gen

variable {F : FTy → Type} [FloatOps F] (m : (ℓ : Loc nD τ sig) → Buf (Elt F) ℓ)

/-- A stretch and the buffers it writes. -/
abbrev Line (F : FTy → Type) := List (HloOp τ sig (Elt F)) × List (Ref sig .tc)
/-- The stretch writes only those buffers. -/
def Line.ok (p : Line F) : Prop := p.1.Forall fun op => op.writes ⊆ (p.2.map (Proc.devRef (τ := τ) .tc)).toFinset

/-- Stretches none of which writes a buffer leave it as it was. -/
theorem afterL_keep {r : Ref sig .tc} : ∀ (l : List (Line F)), l.Forall Line.ok → l.Forall (fun p => r ∉ p.2) →
    ∀ V, afterL (l.map Prod.fst) V (Proc.devRef .tc r) = V (Proc.devRef .tc r)
  | [], _, _, _ => rfl
  | p :: l, h, hr, V => by
    rw [List.forall_cons] at h hr
    exact (afterL_keep l h.2 hr.2 (after p.1 V)).trans (after_of_writes_sub p.1 V h.1 hr.1)

/-- The buffers written after the loop. -/
abbrev postW : List (Ref sig .tc) := [main_v217, main_v218, main_v219, main_v220, main_v221, main_v222, main_v223, main_v224, main_v225]
/-- The stretch after the loop writes only those. -/
theorem postW_ok : (hostOps0_17 : List (HloOp τ sig (Elt F))).Forall fun op => op.writes ⊆ (postW.map (Proc.devRef (τ := τ) .tc)).toFinset :=
  StableHlo.forall_writes_sub_of_map rfl

/-- The stretches before the loop. -/
abbrev preL : List (Line F) := [(hostOps0, hostOps0_W), (hostOps0_1, hostOps0_1_W), (hostOps0_2, hostOps0_2_W), (hostOps0_3, hostOps0_3_W), (hostOps0_4, hostOps0_4_W), (hostOps0_5, hostOps0_5_W), (hostOps0_6, hostOps0_6_W), (hostOps0_7, hostOps0_7_W), (hostOps0_8, hostOps0_8_W), (hostOps0_9, hostOps0_9_W), (hostOps0_10, hostOps0_10_W), (hostOps0_11, hostOps0_11_W), (hostOps0_12, hostOps0_12_W), (hostOps0_13, hostOps0_13_W), (hostOps0_14, hostOps0_14_W), (hostOps0_15, hostOps0_15_W), (hostOps0_16, hostOps0_16_W)]
/-- The loop body's stretches. -/
abbrev bodyL : List (Line F) := [(while0Ops0, while0Ops0_W), (while0Ops0_1, while0Ops0_1_W), (while0Ops0_2, while0Ops0_2_W), (while0Ops0_3, while0Ops0_3_W), (while0Ops0_4, while0Ops0_4_W), (while0Ops0_5, while0Ops0_5_W), (while0Ops0_6, while0Ops0_6_W), (while0Ops0_7, while0Ops0_7_W), (while0Ops0_8, while0Ops0_8_W), (while0Ops0_9, while0Ops0_9_W), (while0Ops0_10, while0Ops0_10_W)]

/-- What the stretches before the loop write. -/
abbrev preWs : List (List (Ref sig .tc)) := [hostOps0_W, hostOps0_1_W, hostOps0_2_W, hostOps0_3_W, hostOps0_4_W, hostOps0_5_W, hostOps0_6_W, hostOps0_7_W, hostOps0_8_W, hostOps0_9_W, hostOps0_10_W, hostOps0_11_W, hostOps0_12_W, hostOps0_13_W, hostOps0_14_W, hostOps0_15_W, hostOps0_16_W]
/-- What the loop body's stretches write. -/
abbrev bodyWs : List (List (Ref sig .tc)) := [while0Ops0_W, while0Ops0_1_W, while0Ops0_2_W, while0Ops0_3_W, while0Ops0_4_W, while0Ops0_5_W, while0Ops0_6_W, while0Ops0_7_W, while0Ops0_8_W, while0Ops0_9_W, while0Ops0_10_W]

/-- The stretches before the loop write only the buffers listed. -/
theorem preL_ok : (preL : List (Line F)).Forall Line.ok := ⟨hostOps0_writes, hostOps0_1_writes, hostOps0_2_writes, hostOps0_3_writes, hostOps0_4_writes, hostOps0_5_writes, hostOps0_6_writes, hostOps0_7_writes, hostOps0_8_writes, hostOps0_9_writes, hostOps0_10_writes, hostOps0_11_writes, hostOps0_12_writes, hostOps0_13_writes, hostOps0_14_writes, hostOps0_15_writes, hostOps0_16_writes⟩
/-- The loop body's stretches write only the buffers listed. -/
theorem bodyL_ok : (bodyL : List (Line F)).Forall Line.ok := ⟨while0Ops0_writes, while0Ops0_1_writes, while0Ops0_2_writes, while0Ops0_3_writes, while0Ops0_4_writes, while0Ops0_5_writes, while0Ops0_6_writes, while0Ops0_7_writes, while0Ops0_8_writes, while0Ops0_9_writes, while0Ops0_10_writes⟩

/-- A buffer that no operation of the program writes. -/
def Fixed (r : Ref sig .tc) : Prop :=
  (∀ w ∈ preWs, r ∉ w) ∧ (∀ w ∈ bodyWs, r ∉ w) ∧ r ∉ condOps_W ∧ r ∉ postW

/-- Such a buffer ends as it began. -/
theorem Fixed.final {r : Ref sig .tc} (h : Fixed r) (n : ℕ) (c : Dev nD) :
    finalContents condOps preI bodyI postI n m c (Proc.devRef .tc r) = launchContents m c (Proc.devRef .tc r) := by
  have hk : ∀ k, atTrip condOps bodyI (entryContents preI m) k c (Proc.devRef .tc r) = launchContents m c (Proc.devRef .tc r) := by
    intro k
    induction k with
    | zero => exact afterL_keep preL preL_ok (List.forall_iff_forall_mem.mpr fun _ hp => h.1 _ (List.mem_map_of_mem (f := Prod.snd) hp)) _
    | succ k ih =>
      exact (afterL_keep bodyL bodyL_ok (List.forall_iff_forall_mem.mpr fun _ hp => h.2.1 _ (List.mem_map_of_mem (f := Prod.snd) hp)) _).trans ((after_of_writes_sub condOps _ condOps_writes h.2.2.1).trans ih)
  exact (after_of_writes_sub hostOps0_17 _ postW_ok h.2.2.2).trans
    ((after_of_writes_sub condOps _ condOps_writes h.2.2.1).trans (hk n))

/-- The arguments are fixed. -/
theorem args_fixed : Fixed main_arg0 ∧ Fixed main_arg1 ∧ Fixed main_arg2 ∧ Fixed main_arg3 ∧
    Fixed main_arg4 ∧ Fixed main_arg5 ∧ Fixed main_arg6 ∧ Fixed main_arg7 := by
  refine ⟨?_, ?_, ?_, ?_, ?_, ?_, ?_, ?_⟩ <;> refine ⟨?_, ?_, ?_, ?_⟩ <;> decide +kernel

/-- The arguments at the end of an execution are the arguments. -/
theorem args_end {m' : (ℓ : Loc nD τ sig) → Buf (Elt F) ℓ} (h : ∀ (c : Dev nD) (b : Ref sig .tc), (Proc.devRef .tc b : DevRef τ sig).isScoped = false →
      m' ((c.tc : Thread nD τ).loc b) = finalContents condOps preI bodyI postI 128 m c (Proc.devRef .tc b)) (c : Dev nD) :
m' ((c.tc : Thread nD τ).loc main_arg0) = m ((c.tc : Thread nD τ).loc main_arg0)
      ∧ m' ((c.tc : Thread nD τ).loc main_arg1) = m ((c.tc : Thread nD τ).loc main_arg1)
      ∧ m' ((c.tc : Thread nD τ).loc main_arg2) = m ((c.tc : Thread nD τ).loc main_arg2)
      ∧ m' ((c.tc : Thread nD τ).loc main_arg3) = m ((c.tc : Thread nD τ).loc main_arg3)
      ∧ m' ((c.tc : Thread nD τ).loc main_arg4) = m ((c.tc : Thread nD τ).loc main_arg4)
      ∧ m' ((c.tc : Thread nD τ).loc main_arg5) = m ((c.tc : Thread nD τ).loc main_arg5)
      ∧ m' ((c.tc : Thread nD τ).loc main_arg6) = m ((c.tc : Thread nD τ).loc main_arg6)
      ∧ m' ((c.tc : Thread nD τ).loc main_arg7) = m ((c.tc : Thread nD τ).loc main_arg7) := by
  obtain ⟨h0, h1, h2, h3, h4, h5, h6, h7⟩ := args_fixed
  exact ⟨(h c main_arg0 rfl).trans (h0.final m 128 c), (h c main_arg1 rfl).trans (h1.final m 128 c), (h c main_arg2 rfl).trans (h2.final m 128 c), (h c main_arg3 rfl).trans (h3.final m 128 c), (h c main_arg4 rfl).trans (h4.final m 128 c), (h c main_arg5 rfl).trans (h5.final m 128 c), (h c main_arg6 rfl).trans (h6.final m 128 c), (h c main_arg7 rfl).trans (h7.final m 128 c)⟩

/-- The frame: every execution ends, the arguments unchanged and every counter at zero. -/
theorem frame_holds (ρ : Dev nD → PrngReg) : θ_run (defs (F := F)) (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run (defs (F := F)) _ _).mono (fun r h => ⟨args_end m h, funext fun x => by rcases x with ⟨_, s | s⟩ <;> exact Fin.elim0 s⟩) (run_fold m ρ)

end Cert.ReferenceIdeal.Value

end
-- ==== Proof.Spec.lean ====
/- The mathematics of the layer on one chunk of 64 tokens, over the extended reals: what both programs compute. -/
module

public import Idealize.ShloMosaic.Lib.Pointwise

@[expose] public section

noncomputable section

namespace Cert.Gdn

open Idealize.ShloMosaic

/-- The weights of the layer, by coordinates: write and output matrices, then the gate, beta and alpha rows, the step bias
    and the logarithm of the decay rate, one per head. -/
structure Wts where
  ww : Fin 1024 → Fin 1024 → EReal
  wo : Fin 1024 → Fin 1024 → EReal
  wg : Fin 8 → Fin 1024 → EReal
  wb : Fin 8 → Fin 1024 → EReal
  wa : Fin 8 → Fin 1024 → EReal
  dtb : Fin 8 → EReal
  al : Fin 8 → EReal

/-- Column `d` of head `h`. -/
def col (h : Fin 8) (d : Fin 128) : Fin 1024 := ⟨128 * h.val + d.val, by omega⟩
/-- The head of a column. -/
def hd (j : Fin 1024) : Fin 8 := ⟨j.val / 128, by omega⟩
/-- The place of a column in its head. -/
def lo (j : Fin 1024) : Fin 128 := ⟨j.val % 128, by omega⟩

/-- The head of a head's column. -/
theorem hd_col (h : Fin 8) (d : Fin 128) : hd (col h d) = h := Fin.ext (by simp only [hd, col]; omega)
/-- The place of a head's column. -/
theorem lo_col (h : Fin 8) (d : Fin 128) : lo (col h d) = d := Fin.ext (by simp only [lo, col]; omega)
/-- A column is the one at its place in its head. -/
theorem col_hd_lo (j : Fin 1024) : col (hd j) (lo j) = j := Fin.ext (by simp only [hd, lo, col]; omega)

/-- The logistic function. -/
def sgm (z : EReal) : EReal := Ideal.div 1 (1 + Ideal.exp (0 - z))
/-- The softplus function. -/
def spl (z : EReal) : EReal := max z 0 + Ideal.log1p (Ideal.exp (0 - FloatOps.absf (F := Ideal) (φ := .f32) z))

section chunk
variable (W : Wts) (X : Fin 64 → Fin 1024 → EReal) (p : Fin 1024 → EReal)

/-- The norm of head `h` of token `a`, at least the small constant. -/
def nrm (a : Fin 64) (h : Fin 8) : EReal :=
  max (Ideal.sqrt (∑ x : Fin 128, X a (col h x) * X a (col h x))) (Ideal.ofBits .f32 730643660#32)
/-- The normalised read key. -/
def rk (a : Fin 64) (j : Fin 1024) : EReal := Ideal.div (X a j) (nrm X a (hd j))
/-- The write key: the read key of the token before; `p` for the chunk's first token. -/
def wk (a : Fin 64) (j : Fin 1024) : EReal := if h : 0 < a.val then rk X ⟨a.val - 1, by omega⟩ j else p j
/-- The write values. -/
def val (a : Fin 64) (j : Fin 1024) : EReal := ∑ x, X a x * W.ww j x
/-- The write strength. -/
def beta (a : Fin 64) (h : Fin 8) : EReal := sgm (∑ x, X a x * W.wb h x)
/-- The output gate. -/
def gate (a : Fin 64) (h : Fin 8) : EReal := sgm (∑ x, X a x * W.wg h x)
/-- The logarithm of the decay at one token. -/
def decay (a : Fin 64) (h : Fin 8) : EReal := (-Ideal.exp (W.al h)) * spl (∑ x, X a x * W.wa h x + W.dtb h)
/-- Its running sum in the chunk. -/
def dec (a : Fin 64) (h : Fin 8) : EReal := ∑ x : Fin 64, if x ≤ a then decay W X x h else 0
/-- The decay from token `b` to token `a`, zero when `b` is after `a`. -/
def lmask (h : Fin 8) (a b : Fin 64) : EReal := if b ≤ a then Ideal.exp (dec W X a h - dec W X b h) else 0
/-- The strictly lower triangular matrix of the chunk's linear system. -/
def mmat (h : Fin 8) (a b : Fin 64) : EReal :=
  if b < a then (∑ d : Fin 128, wk X p a (col h d) * beta W X a h * wk X p b (col h d)) * lmask W X h a b else 0
/-- The identity matrix. -/
def eye (a b : Fin 64) : EReal := if a = b then 1 else 0
/-- One sweep of the solution of `(I + M) A = I`. -/
def sweep (M A : Fin 64 → Fin 64 → EReal) (a b : Fin 64) : EReal := eye a b - ∑ k, M a k * A k b
/-- The solution after 63 sweeps, at which it is final. -/
def solve (M : Fin 64 → Fin 64 → EReal) : Fin 64 → Fin 64 → EReal := (sweep M)^[63] eye
/-- The solved matrix of head `h`. -/
def amat (h : Fin 8) : Fin 64 → Fin 64 → EReal := solve (mmat W X p h)
end chunk

/-- What the chunk's recurrence reads. -/
structure Chunk where
  v2 : Fin 64 → Fin 1024 → EReal
  wkcd : Fin 64 → Fin 1024 → EReal
  rkdec : Fin 64 → Fin 1024 → EReal
  wkdw : Fin 64 → Fin 1024 → EReal
  attn : Fin 8 → Fin 64 → Fin 64 → EReal
  gate : Fin 64 → Fin 8 → EReal
  sdec : Fin 8 → EReal

/-- The chunk's data, of its tokens and the key before its first token. -/
def prep (W : Wts) (X : Fin 64 → Fin 1024 → EReal) (p : Fin 1024 → EReal) : Chunk where
  v2 a j := ∑ k, amat W X p (hd j) a k * (val W X k j * beta W X k (hd j))
  wkcd a j := ∑ k, amat W X p (hd j) a k * (wk X p k j * beta W X k (hd j) * Ideal.exp (dec W X k (hd j)))
  rkdec a j := rk X a j * Ideal.exp (dec W X a (hd j))
  wkdw a j := wk X p a j * Ideal.exp (dec W X 63 (hd j) - dec W X a (hd j))
  attn h a b := (∑ d : Fin 128, rk X a (col h d) * wk X p b (col h d)) * lmask W X h a b
  gate a h := gate W X a h
  sdec h := Ideal.exp (dec W X 63 h)

section step
variable (K : Chunk) (S : Fin 8 → Fin 128 → Fin 128 → EReal)

/-- The values written in the chunk, less what the state already holds. -/
def vnew (a : Fin 64) (j : Fin 1024) : EReal := K.v2 a j - ∑ d : Fin 128, K.wkcd a (col (hd j) d) * S (hd j) d (lo j)
/-- What the chunk's tokens read. -/
def oread (a : Fin 64) (j : Fin 1024) : EReal :=
  (∑ d : Fin 128, K.rkdec a (col (hd j) d) * S (hd j) d (lo j)) + ∑ b : Fin 64, K.attn (hd j) a b * vnew K S b j
/-- The state after the chunk. -/
def snext (h : Fin 8) (d e : Fin 128) : EReal :=
  S h d e * K.sdec h + ∑ a : Fin 64, K.wkdw a (col h d) * vnew K S a (col h e)
/-- The layer's result on the chunk's tokens. -/
def oout (W : Wts) (X : Fin 64 → Fin 1024 → EReal) (a : Fin 64) (j : Fin 1024) : EReal :=
  X a j + ∑ x : Fin 1024, oread K S a x * K.gate a (hd x) * W.wo j x
end step

section seq
variable (W : Wts) (x : Fin 128 → Fin 64 → Fin 1024 → EReal)

/-- The read key just before chunk `n`: zero before the first. -/
def before (n : Fin 128) (j : Fin 1024) : EReal := if h : 0 < n.val then rk (x ⟨n.val - 1, by omega⟩) 63 j else 0
/-- Chunk `n`'s data. -/
def chunk (n : Fin 128) : Chunk := prep W (x n) (before x n)
/-- The state before chunk `n`. -/
def state : ℕ → Fin 8 → Fin 128 → Fin 128 → EReal
  | 0 => fun _ _ _ => 0
  | n + 1 => if h : n < 128 then snext (chunk W x ⟨n, h⟩) (state n) else state n
/-- The result on chunk `n`. -/
def result (n : Fin 128) : Fin 64 → Fin 1024 → EReal := oout (chunk W x n) (state W x n.val) W (x n)
end seq

end Cert.Gdn

end
-- ==== Proof.KernelPrep.lean ====
/- What the kernel's body computes from the chunk it prepares, up to the linear systems: projections, decays, keys and the
   matrices, each at an index, against Spec.lean. -/
module

public import proofs.«01_k».proof.Proof.IdealFrame
public import proofs.«01_k».proof.Proof.Spec
public import Idealize.ShloMosaic.Lib.Pointwise
public import Idealize.ShloMosaic.Lib.WholeRead

@[expose] public section

set_option maxRecDepth 16384

noncomputable section

namespace Cert.KernelIdeal.Value

open Idealize.ShloMosaic Cert.Gdn
open Cert.KernelIdeal Cert.KernelIdeal.Body Cert.KernelIdeal.Gen

/-- A block of one chunk, by token and column. -/
def tok (x : Vec Ideal S1x64x1024 .f32) (a : Fin 64) (j : Fin 1024) : EReal := x (ix3 0 a j)
/-- A row, by column. -/
def row1 (s : Vec Ideal S1x1024 .f32) (j : Fin 1024) : EReal := s (ix2 0 j)

/-- The kernel's weight windows hold the weights `W`. -/
structure Holds (W : Wts) (x2 : Vec Ideal S1024x1024 .f32) (x3 : Vec Ideal S1024x16 .f32) (x4 : Vec Ideal S1024x8 .f32)
    (x5 : Vec Ideal S1024x1024 .f32) (x6 x7 : Vec Ideal S1x8 .f32) : Prop where
  ww : ∀ x j, x2 (ix2 x j) = W.ww j x
  wb : ∀ x (h : Fin 8) hh, x3 (ix2 x ⟨h.val, hh⟩) = W.wb h x
  wg : ∀ x (h : Fin 8) hh, x3 (ix2 x ⟨8 + h.val, hh⟩) = W.wg h x
  wa : ∀ x h, x4 (ix2 x h) = W.wa h x
  wo : ∀ x j, x5 (ix2 x j) = W.wo j x
  dtb : ∀ h, x6 (ix2 0 h) = W.dtb h
  al : ∀ h, x7 (ix2 0 h) = -Ideal.exp (W.al h)

/-- A test `a ≥ b` of two row numbers, as a choice. -/
theorem sel_ge (a b : Fin 64) (u v : EReal) :
    Scalar.select (IntOp.cmpi .sge (BitVec.ofNat 32 a.val) (BitVec.ofNat 32 b.val)) u v = if b ≤ a then u else v := by
  have h : ∀ a b : Fin 64, IntOp.cmpi .sge (BitVec.ofNat 32 a.val) (BitVec.ofNat 32 b.val) = if b ≤ a then 1#1 else 0#1 := by
    decide +kernel
  rw [h a b]; split <;> rfl
/-- A test `a > b` of two row numbers, as a choice. -/
theorem sel_gt (a b : Fin 64) (u v : EReal) :
    Scalar.select (IntOp.cmpi .sgt (BitVec.ofNat 32 a.val) (BitVec.ofNat 32 b.val)) u v = if b < a then u else v := by
  have h : ∀ a b : Fin 64, IntOp.cmpi .sgt (BitVec.ofNat 32 a.val) (BitVec.ofNat 32 b.val) = if b < a then 1#1 else 0#1 := by
    decide +kernel
  rw [h a b]; split <;> rfl
/-- A test `a = b` of two row numbers, as a choice. -/
theorem sel_eq (a b : Fin 64) (u v : EReal) :
    Scalar.select (IntOp.cmpi .eq (BitVec.ofNat 32 a.val) (BitVec.ofNat 32 b.val)) u v = if a = b then u else v := by
  have h : ∀ a b : Fin 64, IntOp.cmpi .eq (BitVec.ofNat 32 a.val) (BitVec.ofNat 32 b.val) = if a = b then 1#1 else 0#1 := by
    decide +kernel
  rw [h a b]; split <;> rfl
/-- A test `a = b + 1` of two row numbers, as a choice. -/
theorem sel_succ (a b : Fin 64) (u v : EReal) :
    Scalar.select (IntOp.cmpi .eq (BitVec.ofNat 32 a.val) (IntOp.addi (BitVec.ofNat 32 b.val) 1#32)) u v
      = if a.val = b.val + 1 then u else v := by
  have h : ∀ a b : Fin 64, IntOp.cmpi .eq (BitVec.ofNat 32 a.val) (IntOp.addi (BitVec.ofNat 32 b.val) 1#32)
      = if a.val = b.val + 1 then 1#1 else 0#1 := by
    decide +kernel
  rw [h a b]; split <;> rfl
/-- A test of a row number against zero, as a choice. -/
theorem sel_zero (a : Fin 64) (u v : EReal) :
    Scalar.select (IntOp.cmpi .eq (BitVec.ofNat 32 a.val) 0#32) u v = if a.val = 0 then u else v := by
  have h : ∀ a : Fin 64, IntOp.cmpi .eq (BitVec.ofNat 32 a.val) 0#32 = if a.val = 0 then 1#1 else 0#1 := by decide +kernel
  rw [h a]; split <;> rfl

/-- The small constant is positive. -/
theorem eps_pos : (0 : EReal) < Ideal.ofBits .f32 730643660#32 := by
  have h : Ideal.ofBits .f32 730643660#32 = ((9223372 * (2 : ℝ) ^ (-63 : ℤ) : ℝ) : EReal) := by
    simp [Ideal.ofBits, Ideal.ieee]
  rw [h]
  exact_mod_cast (by positivity : (0 : ℝ) < 9223372 * (2 : ℝ) ^ (-63 : ℤ))

/-- Multiplying by the inverse of a norm is dividing by it. -/
theorem mul_inv_norm (X : Fin 64 → Fin 1024 → EReal) (a : Fin 64) (h : Fin 8) (u : EReal) :
    u * Ideal.div 1 (nrm X a h) = Ideal.div u (nrm X a h) := by
  have h0 : nrm X a h ≠ 0 := ne_of_gt (lt_of_lt_of_le eps_pos (le_max_right _ _))
  unfold Ideal.div
  rw [if_neg h0, if_neg h0, one_mul]

variable (c : Dev nD) (i : grid0.Coords) (arg2 : Memref sig .tc .vmem S1x64x1024 .f32) (harg2 : arg2.IsWhole)
  (arg3 : Memref sig .tc .vmem S1x64x1024 .f32) (harg3 : arg3.IsWhole) (arg4 : Memref sig .tc .vmem S1024x1024 .f32)
  (harg4 : arg4.IsWhole) (arg5 : Memref sig .tc .vmem S1024x16 .f32) (harg5 : arg5.IsWhole)
  (arg6 : Memref sig .tc .vmem S1024x8 .f32) (harg6 : arg6.IsWhole) (arg7 : Memref sig .tc .vmem S1024x1024 .f32)
  (harg7 : arg7.IsWhole) (arg8 : Memref sig .tc .vmem S1x8 .f32) (harg8 : arg8.IsWhole)
  (arg9 : Memref sig .tc .vmem S1x8 .f32) (harg9 : arg9.IsWhole) (arg12 : Memref sig .tc .vmem S1x1024 .f32)
  (harg12 : arg12.IsWhole)
  (x1 : Vec Ideal S1x64x1024 .f32) (x2 : Vec Ideal S1024x1024 .f32) (x3 : Vec Ideal S1024x16 .f32)
  (x4 : Vec Ideal S1024x8 .f32) (x5 : Vec Ideal S1024x1024 .f32) (x6 x7 : Vec Ideal S1x8 .f32)
  (s1 : Vec Ideal S1x1024 .f32)

/-- The chunk's tokens. -/
theorem xb_apply (a : Fin 64) (k : Fin 1024) : (run.sl.v49 c arg3 harg3 x1) (ix2 a k) = tok x1 a k := by
  pointwise [run.sl.v49]
  rw [Memref.IsWhole.readAt_unread]; pointwise [tok]

section
variable {W : Wts} (hW : Holds W x2 x3 x4 x5 x6 x7)
include hW

/-- The write strengths. -/
theorem beta_apply (a : Fin 64) (h : Fin 8) : (run.sl.v60 c arg3 harg3 arg5 harg5 x1 x3) (ix2 a h) = beta W (tok x1) a h := by
  pointwise [run.sl.v60, run.sl.v58, run.sl.v56, run.sl.v55, run.sl.v53, run.sl.v52, run.sl.cst_53, run.sl.v51, run.sl.v54, run.sl.cst_54, run.sl.v57, run.sl.cst_55, xb_apply, Memref.IsWhole.readAt_unread, hW.wb, beta, sgm]

/-- The output gates. -/
theorem gate_apply (a : Fin 64) (h : Fin 8) : (run.sl.v68 c arg3 harg3 arg5 harg5 x1 x3) (ix2 a h) = gate W (tok x1) a h := by
  pointwise [run.sl.v68, run.sl.v66, run.sl.v64, run.sl.v63, run.sl.v61, run.sl.v52, run.sl.cst_53, run.sl.v51, run.sl.v54, run.sl.cst_54, run.sl.v57, run.sl.cst_55, xb_apply, Memref.IsWhole.readAt_unread, hW.wg, gate, sgm]

/-- The decays at each token. -/
theorem decay_apply (a : Fin 64) (h : Fin 8) : (run.sl.v87 c arg3 harg3 arg6 harg6 arg8 harg8 arg9 harg9 x1 x4 x6 x7) (ix2 a h) = decay W (tok x1) a h := by
  pointwise [run.sl.v87, run.sl.v85, run.sl.v84, run.sl.v83, run.sl.v82, run.sl.v80, run.sl.v75, run.sl.v74, run.sl.v73, run.sl.v71, run.sl.cst_62, run.sl.v70, run.sl.v54, run.sl.cst_54, run.sl.v79, run.sl.v86, run.sl.v77, xb_apply, Memref.IsWhole.readAt_unread, hW.wa, hW.dtb, hW.al, decay, spl]

/-- The write values. -/
theorem val_apply (a : Fin 64) (j : Fin 1024) : (run.sl.v90 c arg3 harg3 arg4 harg4 x1 x2) (ix2 a j) = val W (tok x1) a j := by
  pointwise [run.sl.v90, run.sl.cst_71, run.sl.v89, xb_apply, Memref.IsWhole.readAt_unread, hW.ww, val]

/-- The decays' running sums. -/
theorem dec_apply (a : Fin 64) (h : Fin 8) : (run.sl.v181 c arg3 harg3 arg6 harg6 arg8 harg8 arg9 harg9 x1 x4 x6 x7) (ix2 a h) = dec W (tok x1) a h := by
  pointwise [run.sl.v181, run.sl.cst_62, run.sl.v156, run.sl.v151, run.sl.cst_54, run.sl.v150, run.sl.cst_55, run.sl.v147, run.sl.v148, decay_apply c arg3 harg3 arg6 harg6 arg8 harg8 arg9 harg9 x1 x2 x3 x4 x5 x6 x7 hW, dec]
  simp only [sel_ge]

/-- The running sums, transposed. -/
theorem decT_apply (a : Fin 64) (h : Fin 8) : (run.sl.v182 c arg3 harg3 arg6 harg6 arg8 harg8 arg9 harg9 x1 x4 x6 x7) (ix2 h a) = dec W (tok x1) a h := by
  pointwise [run.sl.v182, run.sl.cst_118, run.sl.v152, run.sl.v151, run.sl.cst_54, run.sl.v150, run.sl.cst_55, run.sl.v147, run.sl.v148, dec_apply c arg3 harg3 arg6 harg6 arg8 harg8 arg9 harg9 x1 x2 x3 x4 x5 x6 x7 hW]
  simp only [sel_eq]
  rw [Finset.sum_ite_eq' Finset.univ a, if_pos (Finset.mem_univ _)]
end

set_option maxHeartbeats 2000000 in
/-- The normalised keys, at column `d` of head `h`. -/
theorem rk_apply_col (a : Fin 64) (h : Fin 8) (d : Fin 128) : (run.sl.r c arg3 harg3 x1) (ix2 a (col h d)) = rk (tok x1) a (col h d) := by
  unfold rk
  rw [hd_col, ← mul_inv_norm]
  unfold nrm col
  fin_cases h <;> pointwise [run.sl.r, run.sl.v188, run.sl.cst_120, run.sl.v253, run.sl.v252, run.sl.v251, run.sl.v250, run.sl.v249, run.sl.v248, run.sl.v247, run.sl.v246, run.sl.v244, run.sl.v242, run.sl.v241, run.sl.v240, run.sl.v239, run.sl.v238, run.sl.v190, run.sl.cst_55, run.sl.v237, run.sl.v236, run.sl.v235, run.sl.v233, run.sl.v231, run.sl.v230, run.sl.v229, run.sl.v228, run.sl.v227, run.sl.v226, run.sl.v225, run.sl.v224, run.sl.v222, run.sl.v220, run.sl.v219, run.sl.v218, run.sl.v217, run.sl.v216, run.sl.v215, run.sl.v214, run.sl.v213, run.sl.v211, run.sl.v209, run.sl.v208, run.sl.v207, run.sl.v206, run.sl.v205, run.sl.v204, run.sl.v203, run.sl.v202, run.sl.v200, run.sl.v198, run.sl.v197, run.sl.v196, run.sl.v195, run.sl.v194, run.sl.v193, run.sl.v192, run.sl.v191, run.sl.v189, run.sl.v187, run.sl.v186, run.sl.v185, run.sl.v184, run.sl.v183, k0_pay55, xb_apply]
  all_goals
    repeat first | rw [dif_pos (by omega)] | rw [dif_neg (by omega)]
    refine congrArg (fun k => tok x1 a k * _) (Fin.ext ?_)
    show _ + _ = _ + _
    omega

/-- The normalised keys, at any column. -/
theorem rk_apply (a : Fin 64) (j : Fin 1024) : (run.sl.r c arg3 harg3 x1) (ix2 a j) = rk (tok x1) a j := by
  rw [← col_hd_lo j]; exact rk_apply_col ..

/-- The read keys as the program spells them. -/
theorem rk_fold : k0_pay55 (run.sl.v49 c arg3 harg3 x1) (run.sl.v193 c arg3 harg3 x1) (run.sl.v204 c arg3 harg3 x1) (run.sl.v215 c arg3 harg3 x1) (run.sl.v226 c arg3 harg3 x1) (run.sl.v237 c arg3 harg3 x1) (run.sl.v248 c arg3 harg3 x1) (run.sl.v249 c arg3 harg3 x1) (run.sl.v253 c arg3 harg3 x1) run.sl.v188 (F := Ideal) = (run.sl.r c arg3 harg3 x1) := rfl

/-- The chunk's last read key. -/
theorem last_apply (j : Fin 1024) : k0_pay57 (run.sl.v49 c arg3 harg3 x1) (run.sl.v193 c arg3 harg3 x1) (run.sl.v204 c arg3 harg3 x1) (run.sl.v215 c arg3 harg3 x1) (run.sl.v226 c arg3 harg3 x1) (run.sl.v237 c arg3 harg3 x1) (run.sl.v248 c arg3 harg3 x1) (run.sl.v249 c arg3 harg3 x1) (run.sl.v253 c arg3 harg3 x1) run.sl.v188 (F := Ideal) (ix2 0 j) = rk (tok x1) 63 j := by
  pointwise [k0_pay57, rk_fold, rk_apply]

/-- The write keys. -/
theorem wk_apply (a : Fin 64) (j : Fin 1024) :
    (run.sl.r_1 c i arg3 harg3 arg12 harg12 x1 s1) (ix2 a j) = wk (tok x1) (fun j => if (i 1).val = 0 then 0 else row1 s1 j) a j := by
  pointwise [run.sl.r_1, k0_pay56, rk_fold, rk_apply, run.sl.v162, run.sl.v151, run.sl.cst_54, run.sl.v150, run.sl.cst_55, run.sl.v159, run.sl.v157, run.sl.v163, run.sl.v164, run.sl.v147, run.sl.v148, Memref.IsWhole.readAt_unread, row1, wk]
  simp only [sel_succ, sel_zero]
  have hsel : Scalar.select (Scalar.cmpi .eq (BitVec.ofNat 32 (i 1).val) 0#32) (0 : EReal) (s1 (ix2 0 j))
      = if (i 1).val = 0 then 0 else s1 (ix2 0 j) := by
    have h : ∀ k : Fin 129, IntOp.cmpi .eq (BitVec.ofNat 32 k.val) 0#32 = if k.val = 0 then 1#1 else 0#1 := by decide +kernel
    show Scalar.select (IntOp.cmpi .eq _ _) _ _ = _
    rw [h (i 1)]; split <;> rfl
  rw [hsel]
  by_cases h : 0 < a.val
  · rw [dif_pos h, if_neg h.ne', add_zero, Finset.sum_eq_single (⟨a.val - 1, by omega⟩ : Fin 64), if_pos (by show a.val = a.val - 1 + 1; omega)]
    · intro b _ hb
      exact if_neg fun e => hb (Fin.ext (by show b.val = a.val - 1; omega))
    · exact fun hn => absurd (Finset.mem_univ _) hn
  · rw [dif_neg h, if_pos (by omega), Finset.sum_eq_zero fun b _ => if_neg (by omega), zero_add]

end Cert.KernelIdeal.Value

end
-- ==== Proof.KernelMat.lean ====
/- The kernel's linear systems: the eight matrices side by side, and the masked products of read and write keys. -/
module

public import proofs.«01_k».proof.Proof.KernelPrep

@[expose] public section

set_option maxRecDepth 16384

noncomputable section

namespace Cert.KernelIdeal.Value

open Idealize.ShloMosaic Cert.Gdn
open Cert.KernelIdeal Cert.KernelIdeal.Body Cert.KernelIdeal.Gen

/-- Column `b` of head `h` among the matrices side by side. -/
def col64 (h : Fin 8) (b : Fin 64) : Fin 512 := ⟨64 * h.val + b.val, by omega⟩

/-- The exponential of a difference, masked by the kernel's constant: zero after the diagonal. -/
theorem exp_mask (q : Prop) [Decidable q] (u : EReal) :
    Ideal.exp (if q then u else (Named.named κ "mask" 4048155338#32 : Ideal .f32)) = if q then Ideal.exp u else 0 := by
  split
  · rfl
  · exact Ideal.exp_bot

variable (c : Dev nD) (i : grid0.Coords) (arg2 : Memref sig .tc .vmem S1x64x1024 .f32) (harg2 : arg2.IsWhole)
  (arg3 : Memref sig .tc .vmem S1x64x1024 .f32) (harg3 : arg3.IsWhole) (arg4 : Memref sig .tc .vmem S1024x1024 .f32)
  (harg4 : arg4.IsWhole) (arg5 : Memref sig .tc .vmem S1024x16 .f32) (harg5 : arg5.IsWhole)
  (arg6 : Memref sig .tc .vmem S1024x8 .f32) (harg6 : arg6.IsWhole) (arg7 : Memref sig .tc .vmem S1024x1024 .f32)
  (harg7 : arg7.IsWhole) (arg8 : Memref sig .tc .vmem S1x8 .f32) (harg8 : arg8.IsWhole)
  (arg9 : Memref sig .tc .vmem S1x8 .f32) (harg9 : arg9.IsWhole) (arg12 : Memref sig .tc .vmem S1x1024 .f32)
  (harg12 : arg12.IsWhole)
  (x1 : Vec Ideal S1x64x1024 .f32) (x2 : Vec Ideal S1024x1024 .f32) (x3 : Vec Ideal S1024x16 .f32)
  (x4 : Vec Ideal S1024x8 .f32) (x5 : Vec Ideal S1024x1024 .f32) (x6 x7 : Vec Ideal S1x8 .f32)
  (s1 : Vec Ideal S1x1024 .f32)
/-- The write key before the chunk, as the kernel takes it. -/
def pkey (j : Fin 1024) : EReal := if (i 1).val = 0 then 0 else row1 s1 j

/-- Head 0's product of write and read keys with write keys, which the generated text nests by the rows of keys. -/
theorem prod0_fold : (run.sl.r_3 c i arg3 harg3 arg5 harg5 arg12 harg12 x1 x3 s1) = matmul dot_S128x128_S64x128_S128x64_1_1_0_0_n_n none
    (concatenate S128x128 0 [⟨S64x128, mulf (extractStridedSlice S64x128 ![0, 0] (run.sl.r_1 c i arg3 harg3 arg12 harg12 x1 s1) slices_S64x1024_o0_0_S64x128)
      (broadcastTo S64x128 (extractStridedSlice S64x1 ![0, 0] (run.sl.v60 c arg3 harg3 arg5 harg5 x1 x3) slices_S64x8_o0_0_S64x1) broadcasts_S64x1_S64x128)⟩,
      ⟨S64x128, extractStridedSlice S64x128 ![0, 0] (run.sl.r c arg3 harg3 x1) slices_S64x1024_o0_0_S64x128⟩] concatenates_S64x128_S64x128_S128x128_d0)
    (extractStridedSlice S64x128 ![0, 0] (run.sl.r_1 c i arg3 harg3 arg12 harg12 x1 s1) slices_S64x1024_o0_0_S64x128) (constant S128x64 .f32 0#32) := rfl

section
variable {W : Wts} (hW : Holds W x2 x3 x4 x5 x6 x7)
include hW

set_option maxHeartbeats 4000000 in
/-- The eight strictly lower matrices. -/
theorem mpiece_apply (h : Fin 8) (a b : Fin 64) :
    (![(run.sl.r_5 c i arg3 harg3 arg5 harg5 arg6 harg6 arg8 harg8 arg9 harg9 arg12 harg12 x1 x3 x4 x6 x7 s1), (run.sl.r_7 c i arg3 harg3 arg5 harg5 arg6 harg6 arg8 harg8 arg9 harg9 arg12 harg12 x1 x3 x4 x6 x7 s1), (run.sl.r_10 c i arg3 harg3 arg5 harg5 arg6 harg6 arg8 harg8 arg9 harg9 arg12 harg12 x1 x3 x4 x6 x7 s1), (run.sl.r_12 c i arg3 harg3 arg5 harg5 arg6 harg6 arg8 harg8 arg9 harg9 arg12 harg12 x1 x3 x4 x6 x7 s1), (run.sl.r_14 c i arg3 harg3 arg5 harg5 arg6 harg6 arg8 harg8 arg9 harg9 arg12 harg12 x1 x3 x4 x6 x7 s1), (run.sl.r_16 c i arg3 harg3 arg5 harg5 arg6 harg6 arg8 harg8 arg9 harg9 arg12 harg12 x1 x3 x4 x6 x7 s1), (run.sl.r_19 c i arg3 harg3 arg5 harg5 arg6 harg6 arg8 harg8 arg9 harg9 arg12 harg12 x1 x3 x4 x6 x7 s1), (run.sl.r_23 c i arg3 harg3 arg5 harg5 arg6 harg6 arg8 harg8 arg9 harg9 arg12 harg12 x1 x3 x4 x6 x7 s1)] h) (ix2 a b)
      = mmat W (tok x1) (pkey i s1) h a b := by
  unfold mmat lmask col pkey
  fin_cases h
  · pointwise [run.sl.r_5, run.sl.cst_152, run.sl.r_4, k0_pay61, k0_pay60, k0_pay63, k0_pay62, prod0_fold, run.sl.v147, run.sl.v148, rk_apply, wk_apply, beta_apply c arg3 harg3 arg5 harg5 x1 x2 x3 x4 x5 x6 x7 hW, dec_apply c arg3 harg3 arg6 harg6 arg8 harg8 arg9 harg9 x1 x2 x3 x4 x5 x6 x7 hW, decT_apply c arg3 harg3 arg6 harg6 arg8 harg8 arg9 harg9 x1 x2 x3 x4 x5 x6 x7 hW]
    simp only [sel_ge, sel_gt, exp_mask]
  all_goals
    pointwise [run.sl.r_7, k0_pay68, k0_pay67, k0_pay66, k0_pay65, run.sl.r_10, k0_pay72, run.sl.r_9, k0_pay71, k0_pay70, k0_pay74, k0_pay73, run.sl.r_12, k0_pay79, k0_pay78, k0_pay77, k0_pay76, run.sl.r_14, run.sl.r_13, k0_pay81, k0_pay84, k0_pay83, k0_pay82, run.sl.r_16, k0_pay89, k0_pay88, k0_pay87, k0_pay86, run.sl.r_19, k0_pay95, k0_pay94, k0_pay93, k0_pay92, run.sl.r_23, k0_pay100, k0_pay99, k0_pay98, k0_pay97, run.sl.v147, run.sl.v148, rk_apply, wk_apply, beta_apply c arg3 harg3 arg5 harg5 x1 x2 x3 x4 x5 x6 x7 hW, dec_apply c arg3 harg3 arg6 harg6 arg8 harg8 arg9 harg9 x1 x2 x3 x4 x5 x6 x7 hW, decT_apply c arg3 harg3 arg6 harg6 arg8 harg8 arg9 harg9 x1 x2 x3 x4 x5 x6 x7 hW]
    simp only [sel_ge, sel_gt, exp_mask]

set_option maxHeartbeats 4000000 in
/-- The eight masked products of read keys with write keys. -/
theorem attn_apply (h : Fin 8) (a b : Fin 64) :
    (![k0_pay64 (run.sl.r_3 c i arg3 harg3 arg5 harg5 arg12 harg12 x1 x3 s1) (k0_pay60 run.sl.v147 run.sl.v148) (run.sl.r_4 c arg3 harg3 arg6 harg6 arg8 harg8 arg9 harg9 x1 x4 x6 x7) run.sl.cst_152, k0_pay69 (run.sl.v60 c arg3 harg3 arg5 harg5 x1 x3) run.sl.v147 run.sl.v148 (run.sl.v181 c arg3 harg3 arg6 harg6 arg8 harg8 arg9 harg9 x1 x4 x6 x7) (run.sl.v182 c arg3 harg3 arg6 harg6 arg8 harg8 arg9 harg9 x1 x4 x6 x7) (run.sl.r c arg3 harg3 x1) (run.sl.r_1 c i arg3 harg3 arg12 harg12 x1 s1),
      k0_pay75 (run.sl.v181 c arg3 harg3 arg6 harg6 arg8 harg8 arg9 harg9 x1 x4 x6 x7) (run.sl.v182 c arg3 harg3 arg6 harg6 arg8 harg8 arg9 harg9 x1 x4 x6 x7) (run.sl.r_9 c i arg3 harg3 arg5 harg5 arg12 harg12 x1 x3 s1) (k0_pay72 run.sl.v147 run.sl.v148), k0_pay80 (run.sl.v60 c arg3 harg3 arg5 harg5 x1 x3) run.sl.v147 run.sl.v148 (run.sl.v181 c arg3 harg3 arg6 harg6 arg8 harg8 arg9 harg9 x1 x4 x6 x7) (run.sl.v182 c arg3 harg3 arg6 harg6 arg8 harg8 arg9 harg9 x1 x4 x6 x7) (run.sl.r c arg3 harg3 x1) (run.sl.r_1 c i arg3 harg3 arg12 harg12 x1 s1),
      k0_pay85 run.sl.v147 run.sl.v148 (run.sl.v181 c arg3 harg3 arg6 harg6 arg8 harg8 arg9 harg9 x1 x4 x6 x7) (run.sl.v182 c arg3 harg3 arg6 harg6 arg8 harg8 arg9 harg9 x1 x4 x6 x7) (run.sl.r c arg3 harg3 x1) (run.sl.r_1 c i arg3 harg3 arg12 harg12 x1 s1) (run.sl.r_13 c i arg3 harg3 arg5 harg5 arg12 harg12 x1 x3 s1), k0_pay91 (run.sl.r_17 c i arg3 harg3 arg5 harg5 arg6 harg6 arg8 harg8 arg9 harg9 arg12 harg12 x1 x3 x4 x6 x7 s1),
      k0_pay96 (run.sl.v60 c arg3 harg3 arg5 harg5 x1 x3) run.sl.v147 run.sl.v148 (run.sl.v181 c arg3 harg3 arg6 harg6 arg8 harg8 arg9 harg9 x1 x4 x6 x7) (run.sl.v182 c arg3 harg3 arg6 harg6 arg8 harg8 arg9 harg9 x1 x4 x6 x7) (run.sl.r c arg3 harg3 x1) (run.sl.r_1 c i arg3 harg3 arg12 harg12 x1 s1), (run.sl.v501 c i arg3 harg3 arg5 harg5 arg6 harg6 arg8 harg8 arg9 harg9 arg12 harg12 x1 x3 x4 x6 x7 s1)] h) (ix2 a b)
      = (prep W (tok x1) (pkey i s1)).attn h a b := by
  unfold prep lmask col pkey
  fin_cases h
  · pointwise [k0_pay64, k0_pay62, k0_pay60, run.sl.r_4, k0_pay61, run.sl.cst_152, prod0_fold, run.sl.v147, run.sl.v148, rk_apply, wk_apply, beta_apply c arg3 harg3 arg5 harg5 x1 x2 x3 x4 x5 x6 x7 hW, dec_apply c arg3 harg3 arg6 harg6 arg8 harg8 arg9 harg9 x1 x2 x3 x4 x5 x6 x7 hW, decT_apply c arg3 harg3 arg6 harg6 arg8 harg8 arg9 harg9 x1 x2 x3 x4 x5 x6 x7 hW]
    simp only [sel_ge, sel_gt, exp_mask]
  all_goals
    pointwise [k0_pay69, k0_pay67, k0_pay66, k0_pay65, k0_pay75, k0_pay73, k0_pay72, run.sl.r_9, k0_pay71, k0_pay70, k0_pay80, k0_pay78, k0_pay77, k0_pay76, k0_pay85, k0_pay83, k0_pay82, run.sl.r_13, k0_pay81, k0_pay91, run.sl.r_17, k0_pay90, k0_pay88, k0_pay87, k0_pay86, k0_pay96, k0_pay94, k0_pay93, k0_pay92, run.sl.v501, run.sl.v498, run.sl.r_22, k0_pay99, run.sl.v497, run.sl.r_21, k0_pay98, k0_pay97, run.sl.v147, run.sl.v148, rk_apply, wk_apply, beta_apply c arg3 harg3 arg5 harg5 x1 x2 x3 x4 x5 x6 x7 hW, dec_apply c arg3 harg3 arg6 harg6 arg8 harg8 arg9 harg9 x1 x2 x3 x4 x5 x6 x7 hW, decT_apply c arg3 harg3 arg6 harg6 arg8 harg8 arg9 harg9 x1 x2 x3 x4 x5 x6 x7 hW]
    simp only [sel_ge, sel_gt, exp_mask]

set_option maxHeartbeats 4000000 in
/-- The eight strictly lower matrices, side by side. -/
theorem mmat_apply (h : Fin 8) (a b : Fin 64) :
    (run.sl.v502 c i arg3 harg3 arg5 harg5 arg6 harg6 arg8 harg8 arg9 harg9 arg12 harg12 x1 x3 x4 x6 x7 s1) (ix2 a (col64 h b)) = mmat W (tok x1) (pkey i s1) h a b := by
  rw [← mpiece_apply c i arg3 harg3 arg5 harg5 arg6 harg6 arg8 harg8 arg9 harg9 arg12 harg12 x1 x2 x3 x4 x5 x6 x7 s1 hW]
  unfold col64 run.sl.v502
  generalize (run.sl.r_5 c i arg3 harg3 arg5 harg5 arg6 harg6 arg8 harg8 arg9 harg9 arg12 harg12 x1 x3 x4 x6 x7 s1) = p0; generalize (run.sl.r_7 c i arg3 harg3 arg5 harg5 arg6 harg6 arg8 harg8 arg9 harg9 arg12 harg12 x1 x3 x4 x6 x7 s1) = p1; generalize (run.sl.r_10 c i arg3 harg3 arg5 harg5 arg6 harg6 arg8 harg8 arg9 harg9 arg12 harg12 x1 x3 x4 x6 x7 s1) = p2; generalize (run.sl.r_12 c i arg3 harg3 arg5 harg5 arg6 harg6 arg8 harg8 arg9 harg9 arg12 harg12 x1 x3 x4 x6 x7 s1) = p3
  generalize (run.sl.r_14 c i arg3 harg3 arg5 harg5 arg6 harg6 arg8 harg8 arg9 harg9 arg12 harg12 x1 x3 x4 x6 x7 s1) = p4; generalize (run.sl.r_16 c i arg3 harg3 arg5 harg5 arg6 harg6 arg8 harg8 arg9 harg9 arg12 harg12 x1 x3 x4 x6 x7 s1) = p5; generalize (run.sl.r_19 c i arg3 harg3 arg5 harg5 arg6 harg6 arg8 harg8 arg9 harg9 arg12 harg12 x1 x3 x4 x6 x7 s1) = p6; generalize (run.sl.r_23 c i arg3 harg3 arg5 harg5 arg6 harg6 arg8 harg8 arg9 harg9 arg12 harg12 x1 x3 x4 x6 x7 s1) = p7
  fin_cases h
  all_goals pointwise []
  all_goals
    have e : ∀ n (hn : n < 64), n = b.val → (⟨n, hn⟩ : Fin 64) = b := fun _ _ h => Fin.ext h
    repeat first | rw [dif_pos (by omega)] | rw [dif_neg (by omega)]
    rw [e _ _ (by omega)]
end

end Cert.KernelIdeal.Value

end
-- ==== Proof.Inverse.lean ====
/- The linear systems of a chunk have real entries, so the doubling of powers and the sweeps solve them alike. -/
module

public import proofs.«01_k».proof.Proof.Spec

@[expose] public section

noncomputable section

namespace Cert.Gdn

open Idealize.ShloMosaic

/-- A real number among the extended reals. -/
def IsReal (x : EReal) : Prop := ∃ r : ℝ, x = (r : EReal)

/-- Zero is real. -/
theorem IsReal.zero : IsReal 0 := ⟨0, rfl⟩
/-- One is real. -/
theorem IsReal.one : IsReal 1 := ⟨1, rfl⟩
/-- A product of reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩
/-- A sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩
/-- A finite sum of reals is real. -/
theorem IsReal.sum {ι : Type} (s : Finset ι) (f : ι → EReal) (h : ∀ i, IsReal (f i)) : IsReal (∑ i ∈ s, f i) :=
  Finset.sum_induction f IsReal (fun _ _ => IsReal.add) IsReal.zero (fun i _ => h i)
/-- A choice between reals is real. -/
theorem IsReal.ite {q : Prop} [Decidable q] {x y : EReal} (hx : q → IsReal x) (hy : IsReal y) : IsReal (if q then x else y) := by
  split
  · exact hx ‹_›
  · exact hy

/-- One and infinity make infinity. -/
theorem one_add_top : (1 : EReal) + ⊤ = ⊤ := EReal.add_top_of_ne_bot (EReal.coe_ne_bot 1)

/-- The logistic function is real. -/
theorem sgm_real (z : EReal) : IsReal (sgm z) := by
  unfold sgm
  induction z with
  | bot => exact ⟨0, by simp [Ideal.div, one_add_top]⟩
  | top => exact ⟨1, by simp [Ideal.div]⟩
  | coe r =>
    have h : (0 : EReal) - (r : EReal) = ((-r : ℝ) : EReal) := by rw [zero_sub]; rfl
    rw [h, Ideal.exp_coe]
    have h1 : (1 : EReal) + ((Real.exp (-r) : ℝ) : EReal) = ((1 + Real.exp (-r) : ℝ) : EReal) := by
      rw [EReal.coe_add]; rfl
    rw [h1, show (1 : EReal) = ((1 : ℝ) : EReal) from rfl, Ideal.div_coe]
    · exact ⟨_, rfl⟩
    · positivity

/-- The small constant is positive. -/
theorem small_pos : (0 : EReal) < Ideal.ofBits .f32 730643660#32 := by
  have h : Ideal.ofBits .f32 730643660#32 = ((9223372 * (2 : ℝ) ^ (-63 : ℤ) : ℝ) : EReal) := by
    simp [Ideal.ofBits, Ideal.ieee]
  rw [h]
  exact_mod_cast (by positivity : (0 : ℝ) < 9223372 * (2 : ℝ) ^ (-63 : ℤ))

/-- A square is not negative. -/
theorem sq_nonneg' (x : EReal) : 0 ≤ x * x := by
  rcases le_total 0 x with h | h
  · exact mul_nonneg h h
  · have := mul_nonneg (EReal.neg_nonneg.mpr h) (EReal.neg_nonneg.mpr h)
    rwa [neg_mul_neg] at this

/-- A column with an infinite entry has an infinite norm, so a key is real. -/
theorem rk_real (X : Fin 64 → Fin 1024 → EReal) (a : Fin 64) (j : Fin 1024) : IsReal (rk X a j) := by
  unfold rk
  have h0 : 0 < nrm X a (hd j) := lt_of_lt_of_le small_pos (le_max_right _ _)
  have hinf : (X a j = ⊤ ∨ X a j = ⊥) → nrm X a (hd j) = ⊤ := by
    intro h
    have hs : X a j * X a j = ⊤ := by rcases h with h | h <;> rw [h] <;> rfl
    have hle : X a (col (hd j) (lo j)) * X a (col (hd j) (lo j)) ≤ ∑ x : Fin 128, X a (col (hd j) x) * X a (col (hd j) x) :=
      Finset.single_le_sum (f := fun x => X a (col (hd j) x) * X a (col (hd j) x)) (fun x _ => sq_nonneg' _) (Finset.mem_univ _)
    rw [col_hd_lo, hs, top_le_iff] at hle
    unfold nrm
    rw [hle, Ideal.sqrt_top, max_eq_left le_top]
  unfold Ideal.div
  rw [if_neg h0.ne']
  generalize hn : nrm X a (hd j) = n at *
  induction n with
  | bot => exact absurd h0 (by simp)
  | top => rw [EReal.inv_top, mul_zero]; exact .zero
  | coe r =>
    refine IsReal.mul ?_ ⟨r⁻¹, (EReal.coe_inv r).symm⟩
    generalize hx : X a j = x at *
    induction x with
    | bot => exact absurd (hinf (Or.inr rfl)) (by simp)
    | top => exact absurd (hinf (Or.inl rfl)) (by simp)
    | coe q => exact ⟨q, rfl⟩

/-- An exponential is not negative. -/
theorem exp_nonneg (x : EReal) : 0 ≤ Ideal.exp x := by
  induction x with
  | bot => exact le_of_eq Ideal.exp_bot.symm
  | top => rw [Ideal.exp_top]; exact le_top
  | coe r => rw [Ideal.exp_coe]; exact_mod_cast (Real.exp_pos r).le

/-- The exponential of a number that is not positive is real. -/
theorem exp_real {x : EReal} (h : x ≤ 0) : IsReal (Ideal.exp x) := by
  induction x with
  | bot => exact ⟨0, Ideal.exp_bot⟩
  | top => exact absurd h (by simp)
  | coe r => exact ⟨_, Ideal.exp_coe r⟩

/-- The logarithm of one and a number that is not negative is not negative. -/
theorem log1p_nonneg {x : EReal} (h : 0 ≤ x) : 0 ≤ Ideal.log1p x := by
  unfold Ideal.log1p
  induction x with
  | bot => exact absurd h (by simp)
  | top => rw [one_add_top]; exact le_top
  | coe r =>
    have hr : 0 ≤ r := by exact_mod_cast h
    have h1 : (1 : EReal) + (r : EReal) = ((1 + r : ℝ) : EReal) := by rw [EReal.coe_add]; rfl
    rw [h1]
    unfold Ideal.log
    show (0 : EReal) ≤ if 1 + r ≤ 0 then _ else _
    rw [if_neg (by linarith)]
    exact_mod_cast Real.log_nonneg (by linarith)

/-- The softplus function is not negative. -/
theorem spl_nonneg (z : EReal) : 0 ≤ spl z :=
  add_nonneg (le_max_right _ _) (log1p_nonneg (exp_nonneg _))

section
variable (W : Wts) (X : Fin 64 → Fin 1024 → EReal) (p : Fin 1024 → EReal)

/-- The decay's logarithm is not positive. -/
theorem decay_nonpos (a : Fin 64) (h : Fin 8) : decay W X a h ≤ 0 := by
  unfold decay
  rw [EReal.neg_mul, EReal.neg_le, neg_zero]
  exact mul_nonneg (exp_nonneg _) (spl_nonneg _)

/-- Its running sum falls. -/
theorem dec_anti {a b : Fin 64} (hab : b ≤ a) (h : Fin 8) : dec W X a h ≤ dec W X b h := by
  refine Finset.sum_le_sum fun x _ => ?_
  by_cases hb : x ≤ b
  · rw [if_pos hb, if_pos (hb.trans hab)]
  · rw [if_neg hb]
    split
    · exact decay_nonpos W X x h
    · exact le_refl _

/-- The decay from one token to a later one is real. -/
theorem lmask_real (h : Fin 8) (a b : Fin 64) : IsReal (lmask W X h a b) :=
  .ite (fun hab => exp_real (EReal.sub_nonpos.mpr (dec_anti W X hab h))) .zero

/-- A write key is real when the key before the chunk is. -/
theorem wk_real (hp : ∀ j, IsReal (p j)) (a : Fin 64) (j : Fin 1024) : IsReal (wk X p a j) := by
  unfold wk
  split
  · exact rk_real X _ j
  · exact hp j

/-- The chunk's matrix is real. -/
theorem mmat_real (hp : ∀ j, IsReal (p j)) (h : Fin 8) (a b : Fin 64) : IsReal (mmat W X p h a b) :=
  .ite (fun _ => .mul (.sum _ _ fun _ => ((wk_real X p hp _ _).mul (sgm_real _)).mul (wk_real X p hp _ _)) (lmask_real W X h a b)) .zero
end

/-- A real matrix among the extended reals. -/
def cst (R : Matrix (Fin 64) (Fin 64) ℝ) (a b : Fin 64) : EReal := ((R a b : ℝ) : EReal)

/-- A matrix of reals is one over the real numbers. -/
theorem exists_cst {M : Fin 64 → Fin 64 → EReal} (h : ∀ a b, IsReal (M a b)) : ∃ R, M = cst R := by
  choose R hR using h
  exact ⟨R, funext fun a => funext fun b => hR a b⟩

/-- Products of matrices agree in both. -/
theorem cst_mul (A B : Matrix (Fin 64) (Fin 64) ℝ) (a b : Fin 64) : ∑ k, cst A a k * cst B k b = cst (A * B) a b := by
  unfold cst
  rw [Matrix.mul_apply]
  simp only [← EReal.coe_mul]
  exact (map_sum (⟨⟨fun r : ℝ => (r : EReal), rfl⟩, EReal.coe_add⟩ : ℝ →+ EReal) _ _).symm
/-- Sums of matrices agree in both. -/
theorem cst_add (A B : Matrix (Fin 64) (Fin 64) ℝ) (a b : Fin 64) : cst A a b + cst B a b = cst (A + B) a b :=
  (EReal.coe_add _ _).symm
/-- Negatives of matrices agree in both. -/
theorem cst_neg (A : Matrix (Fin 64) (Fin 64) ℝ) (a b : Fin 64) : 0 - cst A a b = cst (-A) a b := by
  rw [zero_sub]; exact (EReal.coe_neg _).symm
/-- The identity matrices agree. -/
theorem cst_one (a b : Fin 64) : eye a b = cst 1 a b := by
  unfold eye cst
  rw [Matrix.one_apply]
  split <;> rfl

/-- The sum of the first `n` powers. -/
def geo (P : Matrix (Fin 64) (Fin 64) ℝ) (n : ℕ) : Matrix (Fin 64) (Fin 64) ℝ := ∑ k ∈ Finset.range n, P ^ k

/-- One and a matrix: the first two powers. -/
theorem geo_two (P : Matrix (Fin 64) (Fin 64) ℝ) : 1 + P = geo P 2 := by
  unfold geo
  rw [Finset.sum_range_succ, Finset.sum_range_one, pow_zero, pow_one]
/-- Doubling the number of powers. -/
theorem geo_double (P : Matrix (Fin 64) (Fin 64) ℝ) (n : ℕ) : geo P n + geo P n * P ^ n = geo P (n + n) := by
  unfold geo
  rw [Finset.sum_range_add, Finset.sum_mul]
  exact congrArg _ (Finset.sum_congr rfl fun k _ => by rw [← pow_add, add_comm])
/-- One more power. -/
theorem geo_succ (P : Matrix (Fin 64) (Fin 64) ℝ) (n : ℕ) : geo P (n + 1) = 1 + P * geo P n := by
  unfold geo
  rw [Finset.sum_range_succ', Finset.mul_sum, pow_zero, add_comm]
  exact congrArg _ (Finset.sum_congr rfl fun k _ => pow_succ' P k)

/-- The sweeps sum the powers of minus the matrix. -/
theorem sweep_iter (R : Matrix (Fin 64) (Fin 64) ℝ) : ∀ n, (sweep (cst R))^[n] eye = cst (geo (-R) (n + 1))
  | 0 => by
    funext a b
    rw [Function.iterate_zero, id, cst_one, geo_succ]
    unfold geo
    rw [Finset.sum_range_zero, mul_zero, add_zero]
  | n + 1 => by
    rw [Function.iterate_succ_apply', sweep_iter R n]
    funext a b
    unfold sweep
    rw [cst_mul, cst_one, geo_succ (-R) (n + 1), sub_eq_add_neg]
    have : -cst (R * geo (-R) (n + 1)) a b = cst (-R * geo (-R) (n + 1)) a b := by
      rw [neg_mul]; exact (EReal.coe_neg _).symm
    rw [this, cst_add]

/-- The solution of a real system: the first 64 powers of minus its matrix. -/
theorem solve_cst (R : Matrix (Fin 64) (Fin 64) ℝ) : solve (cst R) = cst (geo (-R) 64) := sweep_iter R 63

end Cert.Gdn

end
-- ==== Proof.KernelInv.lean ====
/- The kernel's linear systems, solved by doubling: the eight matrices side by side are multiplied by a block-diagonal matrix
   of eight, six times. The result is the solution of Spec.lean. -/
module

public import proofs.«01_k».proof.Proof.KernelMat
public import proofs.«01_k».proof.Proof.Inverse

@[expose] public section

set_option maxRecDepth 16384

noncomputable section

namespace Cert.KernelIdeal.Value

open Idealize.ShloMosaic Cert.Gdn
open Cert.KernelIdeal Cert.KernelIdeal.Body Cert.KernelIdeal.Gen

/-- A sum over the columns side by side, head by head. -/
theorem sum_col64 (f : Fin 512 → EReal) : ∑ r, f r = ∑ g : Fin 8, ∑ k : Fin 64, f (col64 g k) := by
  rw [← Fintype.sum_prod_type' (fun g k => f (col64 g k))]
  refine (Fintype.sum_equiv finProdFinEquiv (fun x : Fin 8 × Fin 64 => f (col64 x.1 x.2)) f fun x => congrArg f (Fin.ext ?_)).symm
  show 64 * x.1.val + x.2.val = x.2.val + 64 * x.1.val
  omega

/-- The block-diagonal mask: the same head in row and column. -/
theorem blk_apply (g h : Fin 8) (k j : Fin 64) (u v : EReal) :
    Scalar.select (run.sl.v180 (ix2 (col64 g k) (col64 h j))) u v = if g = h then u else v := by
  have e : ∀ (g : Fin 8) (k : Fin 64), IntOp.shrsi .vector (BitVec.ofNat 32 (col64 g k).val) 6#32 = BitVec.ofNat 32 g.val := by decide +kernel
  have e' : ∀ g h : Fin 8, IntOp.cmpi .eq (BitVec.ofNat 32 g.val) (BitVec.ofNat 32 h.val) = if g = h then 1#1 else 0#1 := by decide +kernel
  have : run.sl.v180 (ix2 (col64 g k) (col64 h j)) = if g = h then 1#1 else 0#1 := by
    rw [← e', ← e g k, ← e h j]
    pointwise [run.sl.v180, run.sl.v175, run.sl.v176, run.sl.v174]
  rw [this]; split <;> rfl

/-- Eight copies of a row of matrices, one above the other, read at a row. -/
theorem stack_apply (Q : FVec Ideal S64x512 .f32) (hc) (g : Fin 8) (k : Fin 64) (c : Fin 512) :
    concatenate S512x512 0 [⟨S64x512, Q⟩, ⟨S64x512, Q⟩, ⟨S64x512, Q⟩, ⟨S64x512, Q⟩, ⟨S64x512, Q⟩, ⟨S64x512, Q⟩, ⟨S64x512, Q⟩, ⟨S64x512, Q⟩] hc
      (ix2 (col64 g k) c) = Q (ix2 k c) := by
  unfold col64
  fin_cases g
  all_goals pointwise []
  all_goals
    have e : ∀ n (hn : n < 64), n = k.val → (⟨n, hn⟩ : Fin 64) = k := fun _ _ h => Fin.ext h
    repeat first | rw [dif_pos (by omega)] | rw [dif_neg (by omega)]
    rw [e _ _ (by omega)]

/-- The columns side by side hold, head by head, real matrices. -/
def Side (A : FVec Ideal S64x512 .f32) (R : Fin 8 → Matrix (Fin 64) (Fin 64) ℝ) : Prop := ∀ h a b, A (ix2 a (col64 h b)) = cst (R h) a b

/-- A row of a product with the block-diagonal matrix, from the rows of a head. -/
theorem blk_sum (Q : FVec Ideal S64x512 .f32) (hc) (f : Fin 512 → EReal) (h : Fin 8) (j : Fin 64) :
    ∑ r, f r * (select run.sl.v180 (concatenate S512x512 0 [⟨S64x512, Q⟩, ⟨S64x512, Q⟩, ⟨S64x512, Q⟩, ⟨S64x512, Q⟩, ⟨S64x512, Q⟩, ⟨S64x512, Q⟩, ⟨S64x512, Q⟩, ⟨S64x512, Q⟩] hc)
      (run.sl.v507 (F := Ideal))) (ix2 r (col64 h j)) = ∑ k : Fin 64, f (col64 h k) * Q (ix2 k (col64 h j)) := by
  rw [sum_col64, Finset.sum_eq_single h]
  · refine Finset.sum_congr rfl fun k _ => ?_
    show _ * Scalar.select (run.sl.v180 _) _ _ = _
    rw [blk_apply, if_pos rfl, stack_apply]
  · intro g _ hg
    refine Finset.sum_eq_zero fun k _ => ?_
    show _ * Scalar.select (run.sl.v180 _) _ _ = _
    rw [blk_apply, if_neg hg]
    have : run.sl.v507 (F := Ideal) (ix2 (col64 g k) (col64 h j)) = 0 := by pointwise [run.sl.v507, run.sl.cst_54]
    rw [this, mul_zero]
  · exact fun hn => absurd (Finset.mem_univ _) hn

/-- The real matrices side by side may be put for equal ones. -/
theorem Side.of {A : FVec Ideal S64x512 .f32} {R S : Fin 8 → Matrix (Fin 64) (Fin 64) ℝ} (hA : Side A R) (e : ∀ h, R h = S h) : Side A S :=
  (funext e : R = S) ▸ hA

/-- The product of eight matrices side by side with the block-diagonal matrix of eight. -/
theorem Side.mm {A Q : FVec Ideal S64x512 .f32} {R S : Fin 8 → Matrix (Fin 64) (Fin 64) ℝ} (hA : Side A R) (hQ : Side Q S) (hc) :
    Side (matmul dot_S64x512_S512x512_S64x512_1_0_0_1_n_n none A
      (select run.sl.v180 (concatenate S512x512 0 [⟨S64x512, Q⟩, ⟨S64x512, Q⟩, ⟨S64x512, Q⟩, ⟨S64x512, Q⟩, ⟨S64x512, Q⟩, ⟨S64x512, Q⟩, ⟨S64x512, Q⟩, ⟨S64x512, Q⟩] hc)
        (run.sl.v507 (F := Ideal))) run.sl.cst_193) (fun h => R h * S h) := by
  intro h a b
  generalize hB : select run.sl.v180 _ (run.sl.v507 (F := Ideal)) = B
  have : matmul dot_S64x512_S512x512_S64x512_1_0_0_1_n_n none A B run.sl.cst_193 (ix2 a (col64 h b)) = ∑ r, A (ix2 a r) * B (ix2 r (col64 h b)) := by
    pointwise [run.sl.cst_193]
  rw [this, ← hB, blk_sum Q hc (fun r => A (ix2 a r)), ← cst_mul]
  exact Finset.sum_congr rfl fun k _ => by rw [hA, hQ]

/-- The same of two rows of matrices at once: the first. -/
theorem Side.mm_fst {A P Q : FVec Ideal S64x512 .f32} {R S : Fin 8 → Matrix (Fin 64) (Fin 64) ℝ} (hA : Side A R) (hQ : Side Q S) (hc hd hs) :
    Side (extractStridedSlice S64x512 ![0, 0] (matmul dot_S128x512_S512x512_S128x512_1_0_0_1_n_n none (concatenate S128x512 0 [⟨S64x512, A⟩, ⟨S64x512, P⟩] hd)
      (select run.sl.v180 (concatenate S512x512 0 [⟨S64x512, Q⟩, ⟨S64x512, Q⟩, ⟨S64x512, Q⟩, ⟨S64x512, Q⟩, ⟨S64x512, Q⟩, ⟨S64x512, Q⟩, ⟨S64x512, Q⟩, ⟨S64x512, Q⟩] hc)
        (run.sl.v507 (F := Ideal))) run.sl.cst_195) hs) (fun h => R h * S h) := by
  intro h a b
  generalize hB : select run.sl.v180 _ (run.sl.v507 (F := Ideal)) = B
  have : extractStridedSlice S64x512 ![0, 0] (matmul dot_S128x512_S512x512_S128x512_1_0_0_1_n_n none (concatenate S128x512 0 [⟨S64x512, A⟩, ⟨S64x512, P⟩] hd) B run.sl.cst_195) hs
      (ix2 a (col64 h b)) = ∑ r, A (ix2 a r) * B (ix2 r (col64 h b)) := by
    pointwise [run.sl.cst_195]
  rw [this, ← hB, blk_sum Q hc (fun r => A (ix2 a r)), ← cst_mul]
  exact Finset.sum_congr rfl fun k _ => by rw [hA, hQ]

/-- The same of two rows of matrices at once: the second. -/
theorem Side.mm_snd {A P Q : FVec Ideal S64x512 .f32} {R S : Fin 8 → Matrix (Fin 64) (Fin 64) ℝ} (hP : Side P R) (hQ : Side Q S) (hc hd hs) :
    Side (extractStridedSlice S64x512 ![64, 0] (matmul dot_S128x512_S512x512_S128x512_1_0_0_1_n_n none (concatenate S128x512 0 [⟨S64x512, A⟩, ⟨S64x512, P⟩] hd)
      (select run.sl.v180 (concatenate S512x512 0 [⟨S64x512, Q⟩, ⟨S64x512, Q⟩, ⟨S64x512, Q⟩, ⟨S64x512, Q⟩, ⟨S64x512, Q⟩, ⟨S64x512, Q⟩, ⟨S64x512, Q⟩, ⟨S64x512, Q⟩] hc)
        (run.sl.v507 (F := Ideal))) run.sl.cst_195) hs) (fun h => R h * S h) := by
  intro h a b
  generalize hB : select run.sl.v180 _ (run.sl.v507 (F := Ideal)) = B
  have : extractStridedSlice S64x512 ![64, 0] (matmul dot_S128x512_S512x512_S128x512_1_0_0_1_n_n none (concatenate S128x512 0 [⟨S64x512, A⟩, ⟨S64x512, P⟩] hd) B run.sl.cst_195) hs
      (ix2 a (col64 h b)) = ∑ r, P (ix2 a r) * B (ix2 r (col64 h b)) := by
    pointwise [run.sl.cst_195]
  rw [this, ← hB, blk_sum Q hc (fun r => P (ix2 a r)), ← cst_mul]
  exact Finset.sum_congr rfl fun k _ => by rw [hP, hQ]

/-- A sum of matrices side by side. -/
theorem Side.add {A B : FVec Ideal S64x512 .f32} {R S : Fin 8 → Matrix (Fin 64) (Fin 64) ℝ} (hA : Side A R) (hB : Side B S) :
    Side (addf A B) (fun h => R h + S h) := fun h a b => by
  show A _ + B _ = _
  rw [hA, hB, cst_add]

/-- One step of the doubling: from the first `n` powers and the `n`-th power, twice as many. -/
theorem Side.double {A : FVec Ideal S64x512 .f32} {R : Fin 8 → Matrix (Fin 64) (Fin 64) ℝ} (n : ℕ) (hA : Side A fun h => geo (R h) n) {B : FVec Ideal S64x512 .f32}
    (hB : Side B fun h => geo (R h) n * R h ^ n) : Side (addf A B) fun h => geo (R h) (n + n) := by
  exact (hA.add hB).of fun h => geo_double (R h) n

variable (c : Dev nD) (i : grid0.Coords) (arg2 : Memref sig .tc .vmem S1x64x1024 .f32) (harg2 : arg2.IsWhole)
  (arg3 : Memref sig .tc .vmem S1x64x1024 .f32) (harg3 : arg3.IsWhole) (arg4 : Memref sig .tc .vmem S1024x1024 .f32)
  (harg4 : arg4.IsWhole) (arg5 : Memref sig .tc .vmem S1024x16 .f32) (harg5 : arg5.IsWhole)
  (arg6 : Memref sig .tc .vmem S1024x8 .f32) (harg6 : arg6.IsWhole) (arg7 : Memref sig .tc .vmem S1024x1024 .f32)
  (harg7 : arg7.IsWhole) (arg8 : Memref sig .tc .vmem S1x8 .f32) (harg8 : arg8.IsWhole)
  (arg9 : Memref sig .tc .vmem S1x8 .f32) (harg9 : arg9.IsWhole) (arg12 : Memref sig .tc .vmem S1x1024 .f32)
  (harg12 : arg12.IsWhole)
  (x1 : Vec Ideal S1x64x1024 .f32) (x2 : Vec Ideal S1024x1024 .f32) (x3 : Vec Ideal S1024x16 .f32)
  (x4 : Vec Ideal S1024x8 .f32) (x5 : Vec Ideal S1024x1024 .f32) (x6 x7 : Vec Ideal S1x8 .f32)
  (s1 : Vec Ideal S1x1024 .f32)

/-- The identities side by side. -/
theorem eyes_side : Side (run.sl.v173 (F := Ideal)) (fun _ => 1) := by
  intro h a b
  have e : ∀ (h : Fin 8) (a b : Fin 64), IntOp.cmpi .eq (IntOp.andi (BitVec.ofNat 32 (col64 h b).val) 63#32) (BitVec.ofNat 32 a.val) = if a = b then 1#1 else 0#1 := by
    decide +kernel
  have : run.sl.v173 (F := Ideal) (ix2 a (col64 h b)) = Scalar.select (IntOp.cmpi .eq (IntOp.andi (BitVec.ofNat 32 (col64 h b).val) 63#32) (BitVec.ofNat 32 a.val)) 1 0 := by
    pointwise [run.sl.v173, run.sl.v172, run.sl.cst_54, run.sl.v171, run.sl.cst_55, run.sl.v170, run.sl.v166, run.sl.v168, run.sl.v167]
  rw [this, e, ← cst_one]
  unfold eye
  split <;> rfl

section
variable {W : Wts} (hW : Holds W x2 x3 x4 x5 x6 x7)
include hW

/-- The kernel's solution of the linear systems. -/
theorem amat_apply (hp : ∀ j, IsReal (pkey i s1 j)) (h : Fin 8) (a b : Fin 64) :
    (run.sl.v546 c i arg3 harg3 arg5 harg5 arg6 harg6 arg8 harg8 arg9 harg9 arg12 harg12 x1 x3 x4 x6 x7 s1) (ix2 a (col64 h b)) = amat W (tok x1) (pkey i s1) h a b := by
  have hR : ∀ h, ∃ R, mmat W (tok x1) (pkey i s1) h = cst R := fun h => exists_cst fun a b => mmat_real W (tok x1) (pkey i s1) hp h a b
  choose R hR using hR
  have h504 : Side (run.sl.v504 c i arg3 harg3 arg5 harg5 arg6 harg6 arg8 harg8 arg9 harg9 arg12 harg12 x1 x3 x4 x6 x7 s1) fun h => (-R h) ^ 1 := fun h a b => by
    have : (run.sl.v504 c i arg3 harg3 arg5 harg5 arg6 harg6 arg8 harg8 arg9 harg9 arg12 harg12 x1 x3 x4 x6 x7 s1) (ix2 a (col64 h b)) = 0 - (run.sl.v502 c i arg3 harg3 arg5 harg5 arg6 harg6 arg8 harg8 arg9 harg9 arg12 harg12 x1 x3 x4 x6 x7 s1) (ix2 a (col64 h b)) := by pointwise [run.sl.v504, run.sl.v172, run.sl.cst_54]
    rw [this, mmat_apply c i arg3 harg3 arg5 harg5 arg6 harg6 arg8 harg8 arg9 harg9 arg12 harg12 x1 x2 x3 x4 x5 x6 x7 s1 hW, hR h, cst_neg]; exact congrArg (fun Q => cst Q a b) (pow_one _).symm
  have h505 : Side (run.sl.v505 c i arg3 harg3 arg5 harg5 arg6 harg6 arg8 harg8 arg9 harg9 arg12 harg12 x1 x3 x4 x6 x7 s1) fun h => geo (-R h) 2 := by
    exact (eyes_side.add h504).of fun h => by rw [pow_one, geo_two]
  have h509 : Side (run.sl.v509 c i arg3 harg3 arg5 harg5 arg6 harg6 arg8 harg8 arg9 harg9 arg12 harg12 x1 x3 x4 x6 x7 s1) fun h => (-R h) ^ 2 := by
    exact (h504.mm h504 _).of fun h => (pow_add (-R h) 1 1).symm
  have h516 : Side (run.sl.v516 c i arg3 harg3 arg5 harg5 arg6 harg6 arg8 harg8 arg9 harg9 arg12 harg12 x1 x3 x4 x6 x7 s1) fun h => geo (-R h) 4 := h505.double 2 (h505.mm_fst h509 _ _ _)
  have h517 : Side (run.sl.v517 c i arg3 harg3 arg5 harg5 arg6 harg6 arg8 harg8 arg9 harg9 arg12 harg12 x1 x3 x4 x6 x7 s1) fun h => (-R h) ^ 4 := (h509.mm_snd (A := (run.sl.v505 c i arg3 harg3 arg5 harg5 arg6 harg6 arg8 harg8 arg9 harg9 arg12 harg12 x1 x3 x4 x6 x7 s1)) h509 _ _ _).of fun h => (pow_add (-R h) 2 2).symm
  have h524 : Side (run.sl.v524 c i arg3 harg3 arg5 harg5 arg6 harg6 arg8 harg8 arg9 harg9 arg12 harg12 x1 x3 x4 x6 x7 s1) fun h => geo (-R h) 8 := h516.double 4 (h516.mm_fst h517 _ _ _)
  have h525 : Side (run.sl.v525 c i arg3 harg3 arg5 harg5 arg6 harg6 arg8 harg8 arg9 harg9 arg12 harg12 x1 x3 x4 x6 x7 s1) fun h => (-R h) ^ 8 := (h517.mm_snd (A := (run.sl.v516 c i arg3 harg3 arg5 harg5 arg6 harg6 arg8 harg8 arg9 harg9 arg12 harg12 x1 x3 x4 x6 x7 s1)) h517 _ _ _).of fun h => (pow_add (-R h) 4 4).symm
  have h532 : Side (run.sl.v532 c i arg3 harg3 arg5 harg5 arg6 harg6 arg8 harg8 arg9 harg9 arg12 harg12 x1 x3 x4 x6 x7 s1) fun h => geo (-R h) 16 := h524.double 8 (h524.mm_fst h525 _ _ _)
  have h533 : Side (run.sl.v533 c i arg3 harg3 arg5 harg5 arg6 harg6 arg8 harg8 arg9 harg9 arg12 harg12 x1 x3 x4 x6 x7 s1) fun h => (-R h) ^ 16 := (h525.mm_snd (A := (run.sl.v524 c i arg3 harg3 arg5 harg5 arg6 harg6 arg8 harg8 arg9 harg9 arg12 harg12 x1 x3 x4 x6 x7 s1)) h525 _ _ _).of fun h => (pow_add (-R h) 8 8).symm
  have h540 : Side (run.sl.v540 c i arg3 harg3 arg5 harg5 arg6 harg6 arg8 harg8 arg9 harg9 arg12 harg12 x1 x3 x4 x6 x7 s1) fun h => geo (-R h) 32 := h532.double 16 (h532.mm_fst h533 _ _ _)
  have h541 : Side (run.sl.v541 c i arg3 harg3 arg5 harg5 arg6 harg6 arg8 harg8 arg9 harg9 arg12 harg12 x1 x3 x4 x6 x7 s1) fun h => (-R h) ^ 32 := (h533.mm_snd (A := (run.sl.v532 c i arg3 harg3 arg5 harg5 arg6 harg6 arg8 harg8 arg9 harg9 arg12 harg12 x1 x3 x4 x6 x7 s1)) h533 _ _ _).of fun h => (pow_add (-R h) 16 16).symm
  have h546 : Side (run.sl.v546 c i arg3 harg3 arg5 harg5 arg6 harg6 arg8 harg8 arg9 harg9 arg12 harg12 x1 x3 x4 x6 x7 s1) fun h => geo (-R h) 64 := h540.double 32 (h540.mm h541 _)
  rw [h546 h a b]
  unfold amat
  rw [hR h, solve_cst]
end

end Cert.KernelIdeal.Value

end
-- ==== Proof.KernelPieces.lean ====
/- What the kernel's body stores for the next step, at an index: the fields of Spec.lean's `prep`. -/
module

public import proofs.«01_k».proof.Proof.KernelInv

@[expose] public section

set_option maxRecDepth 16384

noncomputable section

namespace Cert.KernelIdeal.Value

open Idealize.ShloMosaic Cert.Gdn
open Cert.KernelIdeal Cert.KernelIdeal.Body Cert.KernelIdeal.Gen

variable (c : Dev nD) (i : grid0.Coords) (arg2 : Memref sig .tc .vmem S1x64x1024 .f32) (harg2 : arg2.IsWhole)
  (arg3 : Memref sig .tc .vmem S1x64x1024 .f32) (harg3 : arg3.IsWhole) (arg4 : Memref sig .tc .vmem S1024x1024 .f32)
  (harg4 : arg4.IsWhole) (arg5 : Memref sig .tc .vmem S1024x16 .f32) (harg5 : arg5.IsWhole)
  (arg6 : Memref sig .tc .vmem S1024x8 .f32) (harg6 : arg6.IsWhole) (arg7 : Memref sig .tc .vmem S1024x1024 .f32)
  (harg7 : arg7.IsWhole) (arg8 : Memref sig .tc .vmem S1x8 .f32) (harg8 : arg8.IsWhole)
  (arg9 : Memref sig .tc .vmem S1x8 .f32) (harg9 : arg9.IsWhole) (arg12 : Memref sig .tc .vmem S1x1024 .f32)
  (harg12 : arg12.IsWhole)
  (x1 : Vec Ideal S1x64x1024 .f32) (x2 : Vec Ideal S1024x1024 .f32) (x3 : Vec Ideal S1024x16 .f32)
  (x4 : Vec Ideal S1024x8 .f32) (x5 : Vec Ideal S1024x1024 .f32) (x6 x7 : Vec Ideal S1x8 .f32)
  (s1 : Vec Ideal S1x1024 .f32)

/-- Head 0's write keys times their strengths, which the generated text nests by the rows of keys. -/
theorem wkb0_fold : (run.sl.r_2 c i arg3 harg3 arg5 harg5 arg12 harg12 x1 x3 s1) = mulf (extractStridedSlice S64x128 ![0, 0] (run.sl.r_1 c i arg3 harg3 arg12 harg12 x1 s1) slices_S64x1024_o0_0_S64x128)
    (broadcastTo S64x128 (extractStridedSlice S64x1 ![0, 0] (run.sl.v60 c arg3 harg3 arg5 harg5 x1 x3) slices_S64x8_o0_0_S64x1) broadcasts_S64x1_S64x128) := rfl

section
variable {W : Wts} (hW : Holds W x2 x3 x4 x5 x6 x7)
include hW

/-- The gates stored. -/
theorem gate_stored (a : Fin 64) (h : Fin 8) : (run.sl.v676 c arg3 harg3 arg5 harg5 x1 x3) (ix2 a h) = (prep W (tok x1) (pkey i s1)).gate a h := by
  unfold prep
  pointwise [run.sl.v676, gate_apply c arg3 harg3 arg5 harg5 x1 x2 x3 x4 x5 x6 x7 hW]

/-- The decays of the whole chunk stored. -/
theorem sdec_stored (h : Fin 8) : (run.sl.v673 c arg3 harg3 arg6 harg6 arg8 harg8 arg9 harg9 x1 x4 x6 x7) (ix2 0 h) = (prep W (tok x1) (pkey i s1)).sdec h := by
  unfold prep
  pointwise [run.sl.v673, run.sl.v670, run.sl.v669, dec_apply c arg3 harg3 arg6 harg6 arg8 harg8 arg9 harg9 x1 x2 x3 x4 x5 x6 x7 hW]

set_option maxHeartbeats 4000000 in
/-- The read keys times their decays stored, head by head. -/
theorem rkdec_stored (h : Fin 8) (a : Fin 64) (d : Fin 128) :
    (![(run.sl.v701 c arg3 harg3 arg6 harg6 arg8 harg8 arg9 harg9 x1 x4 x6 x7), (run.sl.v736 c arg3 harg3 arg6 harg6 arg8 harg8 arg9 harg9 x1 x4 x6 x7), (run.sl.v771 c arg3 harg3 arg6 harg6 arg8 harg8 arg9 harg9 x1 x4 x6 x7), (run.sl.v806 c arg3 harg3 arg6 harg6 arg8 harg8 arg9 harg9 x1 x4 x6 x7), (run.sl.v841 c arg3 harg3 arg6 harg6 arg8 harg8 arg9 harg9 x1 x4 x6 x7), (run.sl.v876 c arg3 harg3 arg6 harg6 arg8 harg8 arg9 harg9 x1 x4 x6 x7), (run.sl.v911 c arg3 harg3 arg6 harg6 arg8 harg8 arg9 harg9 x1 x4 x6 x7), k0_pay204 (run.sl.v181 c arg3 harg3 arg6 harg6 arg8 harg8 arg9 harg9 x1 x4 x6 x7) (run.sl.r c arg3 harg3 x1)] h) (ix2 a d) = (prep W (tok x1) (pkey i s1)).rkdec a (col h d) := by
  simp only [prep, hd_col]
  unfold col
  fin_cases h
  all_goals pointwise [run.sl.v701, run.sl.v698, run.sl.v684, run.sl.v679, run.sl.v678, run.sl.v696, run.sl.v736, run.sl.v733, run.sl.v719, run.sl.v714, run.sl.v713, run.sl.v731, run.sl.v771, run.sl.v768, run.sl.v754, run.sl.v749, run.sl.v748, run.sl.v766, run.sl.v806, run.sl.v803, run.sl.v789, run.sl.v784, run.sl.v783, run.sl.v801, run.sl.v841, run.sl.v838, run.sl.v824, run.sl.v819, run.sl.v818, run.sl.v836, run.sl.v876, run.sl.v873, run.sl.v859, run.sl.v854, run.sl.v853, run.sl.v871, run.sl.v911, run.sl.v908, run.sl.v894, run.sl.v889, run.sl.v888, run.sl.v906, k0_pay204, k0_pay200, k0_pay199, rk_apply, dec_apply c arg3 harg3 arg6 harg6 arg8 harg8 arg9 harg9 x1 x2 x3 x4 x5 x6 x7 hW]

set_option maxHeartbeats 4000000 in
/-- The write keys times the decays after them stored, head by head. -/
theorem wkdw_stored (h : Fin 8) (a : Fin 64) (d : Fin 128) :
    (![(run.sl.v711 c i arg3 harg3 arg6 harg6 arg8 harg8 arg9 harg9 arg12 harg12 x1 x4 x6 x7 s1), (run.sl.v746 c i arg3 harg3 arg6 harg6 arg8 harg8 arg9 harg9 arg12 harg12 x1 x4 x6 x7 s1), (run.sl.v781 c i arg3 harg3 arg6 harg6 arg8 harg8 arg9 harg9 arg12 harg12 x1 x4 x6 x7 s1), (run.sl.v816 c i arg3 harg3 arg6 harg6 arg8 harg8 arg9 harg9 arg12 harg12 x1 x4 x6 x7 s1), (run.sl.v851 c i arg3 harg3 arg6 harg6 arg8 harg8 arg9 harg9 arg12 harg12 x1 x4 x6 x7 s1), (run.sl.v886 c i arg3 harg3 arg6 harg6 arg8 harg8 arg9 harg9 arg12 harg12 x1 x4 x6 x7 s1), (run.sl.v921 c i arg3 harg3 arg6 harg6 arg8 harg8 arg9 harg9 arg12 harg12 x1 x4 x6 x7 s1), k0_pay1 (run.sl.r_1 c i arg3 harg3 arg12 harg12 x1 s1) (run.sl.r_24 c arg3 harg3 arg6 harg6 arg8 harg8 arg9 harg9 x1 x4 x6 x7) (run.sl.r_25 c arg3 harg3 arg6 harg6 arg8 harg8 arg9 harg9 x1 x4 x6 x7)] h) (ix2 a d) = (prep W (tok x1) (pkey i s1)).wkdw a (col h d) := by
  simp only [prep, hd_col]
  unfold col pkey
  fin_cases h
  all_goals pointwise [run.sl.v711, run.sl.v708, run.sl.v707, run.sl.v705, run.sl.v704, run.sl.v678, run.sl.v703, run.sl.v702, run.sl.v706, run.sl.v746, run.sl.v743, run.sl.v742, run.sl.v740, run.sl.v739, run.sl.v713, run.sl.v738, run.sl.v737, run.sl.v741, run.sl.v781, run.sl.v778, run.sl.v777, run.sl.v775, run.sl.v774, run.sl.v748, run.sl.v773, run.sl.v772, run.sl.v776, run.sl.v816, run.sl.v813, run.sl.v812, run.sl.v810, run.sl.v809, run.sl.v783, run.sl.v808, run.sl.v807, run.sl.v811, run.sl.v851, run.sl.v848, run.sl.v847, run.sl.v845, run.sl.v844, run.sl.v818, run.sl.v843, run.sl.v842, run.sl.v846, run.sl.v886, run.sl.v883, run.sl.v882, run.sl.v880, run.sl.v879, run.sl.v853, run.sl.v878, run.sl.v877, run.sl.v881, run.sl.v921, run.sl.v918, run.sl.v917, run.sl.v915, run.sl.v914, run.sl.v888, run.sl.v913, run.sl.v912, run.sl.v916, k0_pay1, run.sl.r_24, k0_pay199, run.sl.r_25, k0_pay205, wk_apply, dec_apply c arg3 harg3 arg6 harg6 arg8 harg8 arg9 harg9 x1 x2 x3 x4 x5 x6 x7 hW]

set_option maxHeartbeats 4000000 in
/-- The solved values stored, head by head. -/
theorem v2_stored (hp : ∀ j, IsReal (pkey i s1 j)) (h : Fin 8) (a : Fin 64) (d : Fin 128) :
    (![(run.sl.v691 c i arg3 harg3 arg4 harg4 arg5 harg5 arg6 harg6 arg8 harg8 arg9 harg9 arg12 harg12 x1 x2 x3 x4 x6 x7 s1), (run.sl.v726 c i arg3 harg3 arg4 harg4 arg5 harg5 arg6 harg6 arg8 harg8 arg9 harg9 arg12 harg12 x1 x2 x3 x4 x6 x7 s1), (run.sl.v761 c i arg3 harg3 arg4 harg4 arg5 harg5 arg6 harg6 arg8 harg8 arg9 harg9 arg12 harg12 x1 x2 x3 x4 x6 x7 s1), (run.sl.v796 c i arg3 harg3 arg4 harg4 arg5 harg5 arg6 harg6 arg8 harg8 arg9 harg9 arg12 harg12 x1 x2 x3 x4 x6 x7 s1), (run.sl.v831 c i arg3 harg3 arg4 harg4 arg5 harg5 arg6 harg6 arg8 harg8 arg9 harg9 arg12 harg12 x1 x2 x3 x4 x6 x7 s1), (run.sl.v866 c i arg3 harg3 arg4 harg4 arg5 harg5 arg6 harg6 arg8 harg8 arg9 harg9 arg12 harg12 x1 x2 x3 x4 x6 x7 s1), (run.sl.v901 c i arg3 harg3 arg4 harg4 arg5 harg5 arg6 harg6 arg8 harg8 arg9 harg9 arg12 harg12 x1 x2 x3 x4 x6 x7 s1), k0_pay202 (run.sl.v60 c arg3 harg3 arg5 harg5 x1 x3) (run.sl.v90 c arg3 harg3 arg4 harg4 x1 x2) (run.sl.v181 c arg3 harg3 arg6 harg6 arg8 harg8 arg9 harg9 x1 x4 x6 x7) (run.sl.r_20 c i arg3 harg3 arg5 harg5 arg12 harg12 x1 x3 s1) (run.sl.v546 c i arg3 harg3 arg5 harg5 arg6 harg6 arg8 harg8 arg9 harg9 arg12 harg12 x1 x3 x4 x6 x7 s1)] h) (ix2 a d) = (prep W (tok x1) (pkey i s1)).v2 a (col h d) := by
  have hA := amat_apply c i arg3 harg3 arg5 harg5 arg6 harg6 arg8 harg8 arg9 harg9 arg12 harg12 x1 x2 x3 x4 x5 x6 x7 s1 hW hp h a
  simp only [prep, hd_col]
  unfold col
  fin_cases h
  all_goals
    pointwise [run.sl.v691, run.sl.v688, run.sl.v687, run.sl.cst_321, run.sl.v686, run.sl.v685, run.sl.v684, run.sl.v679, run.sl.v678, run.sl.v683, run.sl.v682, run.sl.v681, run.sl.v680, run.sl.v677, run.sl.v726, run.sl.v723, run.sl.v722, run.sl.v721, run.sl.v720, run.sl.v719, run.sl.v714, run.sl.v713, run.sl.v718, run.sl.v717, run.sl.v716, run.sl.v715, run.sl.v712, run.sl.v761, run.sl.v758, run.sl.v757, run.sl.v756, run.sl.v755, run.sl.v754, run.sl.v749, run.sl.v748, run.sl.v753, run.sl.v752, run.sl.v751, run.sl.v750, run.sl.v747, run.sl.v796, run.sl.v793, run.sl.v792, run.sl.v791, run.sl.v790, run.sl.v789, run.sl.v784, run.sl.v783, run.sl.v788, run.sl.v787, run.sl.v786, run.sl.v785, run.sl.v782, run.sl.v831, run.sl.v828, run.sl.v827, run.sl.v826, run.sl.v825, run.sl.v824, run.sl.v819, run.sl.v818, run.sl.v823, run.sl.v822, run.sl.v821, run.sl.v820, run.sl.v817, run.sl.v866, run.sl.v863, run.sl.v862, run.sl.v861, run.sl.v860, run.sl.v859, run.sl.v854, run.sl.v853, run.sl.v858, run.sl.v857, run.sl.v856, run.sl.v855, run.sl.v852, run.sl.v901, run.sl.v898, run.sl.v897, run.sl.v896, run.sl.v895, run.sl.v894, run.sl.v889, run.sl.v888, run.sl.v893, run.sl.v892, run.sl.v891, run.sl.v890, run.sl.v887, k0_pay202, k0_pay201, k0_pay200, k0_pay199, val_apply c arg3 harg3 arg4 harg4 x1 x2 x3 x4 x5 x6 x7 hW, beta_apply c arg3 harg3 arg5 harg5 x1 x2 x3 x4 x5 x6 x7 hW]
    exact Finset.sum_congr rfl fun k _ => congrArg₂ (· * ·) ((congrArg (fun q => (run.sl.v546 c i arg3 harg3 arg5 harg5 arg6 harg6 arg8 harg8 arg9 harg9 arg12 harg12 x1 x3 x4 x6 x7 s1) (ix2 a q)) (Fin.ext (by simp [col64]))).trans (hA k)) rfl

set_option maxHeartbeats 4000000 in
/-- The solved keys stored, head by head. -/
theorem wkcd_stored (hp : ∀ j, IsReal (pkey i s1 j)) (h : Fin 8) (a : Fin 64) (d : Fin 128) :
    (![(run.sl.v695 c i arg3 harg3 arg4 harg4 arg5 harg5 arg6 harg6 arg8 harg8 arg9 harg9 arg12 harg12 x1 x2 x3 x4 x6 x7 s1), (run.sl.v730 c i arg3 harg3 arg4 harg4 arg5 harg5 arg6 harg6 arg8 harg8 arg9 harg9 arg12 harg12 x1 x2 x3 x4 x6 x7 s1), (run.sl.v765 c i arg3 harg3 arg4 harg4 arg5 harg5 arg6 harg6 arg8 harg8 arg9 harg9 arg12 harg12 x1 x2 x3 x4 x6 x7 s1), (run.sl.v800 c i arg3 harg3 arg4 harg4 arg5 harg5 arg6 harg6 arg8 harg8 arg9 harg9 arg12 harg12 x1 x2 x3 x4 x6 x7 s1), (run.sl.v835 c i arg3 harg3 arg4 harg4 arg5 harg5 arg6 harg6 arg8 harg8 arg9 harg9 arg12 harg12 x1 x2 x3 x4 x6 x7 s1), (run.sl.v870 c i arg3 harg3 arg4 harg4 arg5 harg5 arg6 harg6 arg8 harg8 arg9 harg9 arg12 harg12 x1 x2 x3 x4 x6 x7 s1), (run.sl.v905 c i arg3 harg3 arg4 harg4 arg5 harg5 arg6 harg6 arg8 harg8 arg9 harg9 arg12 harg12 x1 x2 x3 x4 x6 x7 s1), k0_pay203 (run.sl.v60 c arg3 harg3 arg5 harg5 x1 x3) (run.sl.v90 c arg3 harg3 arg4 harg4 x1 x2) (run.sl.v181 c arg3 harg3 arg6 harg6 arg8 harg8 arg9 harg9 x1 x4 x6 x7) (run.sl.r_20 c i arg3 harg3 arg5 harg5 arg12 harg12 x1 x3 s1) (run.sl.v546 c i arg3 harg3 arg5 harg5 arg6 harg6 arg8 harg8 arg9 harg9 arg12 harg12 x1 x3 x4 x6 x7 s1)] h) (ix2 a d) = (prep W (tok x1) (pkey i s1)).wkcd a (col h d) := by
  have hA := amat_apply c i arg3 harg3 arg5 harg5 arg6 harg6 arg8 harg8 arg9 harg9 arg12 harg12 x1 x2 x3 x4 x5 x6 x7 s1 hW hp h a
  simp only [prep, hd_col]
  unfold col
  fin_cases h
  all_goals
    pointwise [run.sl.v695, run.sl.v692, run.sl.v687, run.sl.cst_321, run.sl.v686, run.sl.v685, run.sl.v684, run.sl.v679, run.sl.v678, run.sl.v683, run.sl.v682, run.sl.v681, run.sl.v680, run.sl.v677, run.sl.v730, run.sl.v727, run.sl.v722, run.sl.v721, run.sl.v720, run.sl.v719, run.sl.v714, run.sl.v713, run.sl.r_6, k0_pay65, run.sl.v718, run.sl.v717, run.sl.v716, run.sl.v715, run.sl.v712, run.sl.v765, run.sl.v762, run.sl.v757, run.sl.v756, run.sl.v755, run.sl.v754, run.sl.v749, run.sl.v748, run.sl.r_8, k0_pay70, run.sl.v753, run.sl.v752, run.sl.v751, run.sl.v750, run.sl.v747, run.sl.v800, run.sl.v797, run.sl.v792, run.sl.v791, run.sl.v790, run.sl.v789, run.sl.v784, run.sl.v783, run.sl.r_11, k0_pay76, run.sl.v788, run.sl.v787, run.sl.v786, run.sl.v785, run.sl.v782, run.sl.v835, run.sl.v832, run.sl.v827, run.sl.v826, run.sl.v825, run.sl.v824, run.sl.v819, run.sl.v818, run.sl.r_13, k0_pay81, run.sl.v823, run.sl.v822, run.sl.v821, run.sl.v820, run.sl.v817, run.sl.v870, run.sl.v867, run.sl.v862, run.sl.v861, run.sl.v860, run.sl.v859, run.sl.v854, run.sl.v853, run.sl.r_15, k0_pay86, run.sl.v858, run.sl.v857, run.sl.v856, run.sl.v855, run.sl.v852, run.sl.v905, run.sl.v902, run.sl.v897, run.sl.v896, run.sl.v895, run.sl.v894, run.sl.v889, run.sl.v888, run.sl.r_18, k0_pay92, run.sl.v893, run.sl.v892, run.sl.v891, run.sl.v890, run.sl.v887, k0_pay203, k0_pay201, k0_pay200, k0_pay199, run.sl.r_20, k0_pay97, wkb0_fold, wk_apply, beta_apply c arg3 harg3 arg5 harg5 x1 x2 x3 x4 x5 x6 x7 hW, dec_apply c arg3 harg3 arg6 harg6 arg8 harg8 arg9 harg9 x1 x2 x3 x4 x5 x6 x7 hW]
    exact Finset.sum_congr rfl fun k _ => congrArg₂ (· * ·) ((congrArg (fun q => (run.sl.v546 c i arg3 harg3 arg5 harg5 arg6 harg6 arg8 harg8 arg9 harg9 arg12 harg12 x1 x3 x4 x6 x7 s1) (ix2 a q)) (Fin.ext (by simp [col64]))).trans (hA k)) rfl
end

end Cert.KernelIdeal.Value

end
-- ==== Proof.KernelStep.lean ====
/- What the kernel's body computes from the scratch the step before left: the result block and the next state, at an
   index, as Spec.lean's `oout` and `snext`. -/
module

public import proofs.«01_k».proof.Proof.KernelPrep

@[expose] public section

set_option maxRecDepth 16384

noncomputable section

namespace Cert.KernelIdeal.Value

open Idealize.ShloMosaic Cert.Gdn
open Cert.KernelIdeal Cert.KernelIdeal.Body Cert.KernelIdeal.Gen

variable (c : Dev nD) (arg2 : Memref sig .tc .vmem S1x64x1024 .f32) (harg2 : arg2.IsWhole)
  (arg7 : Memref sig .tc .vmem S1024x1024 .f32) (harg7 : arg7.IsWhole)
  (arg11 : Memref sig .tc .vmem S8x128x128 .f32) (harg11 : arg11.IsWhole)
  (arg13 : Memref sig .tc .vmem S64x1024 .f32) (harg13 : arg13.IsWhole)
  (arg14 : Memref sig .tc .vmem S64x1024 .f32) (harg14 : arg14.IsWhole)
  (arg15 : Memref sig .tc .vmem S64x1024 .f32) (harg15 : arg15.IsWhole)
  (arg16 : Memref sig .tc .vmem S64x1024 .f32) (harg16 : arg16.IsWhole)
  (arg17 : Memref sig .tc .vmem S512x64 .f32) (harg17 : arg17.IsWhole)
  (arg18 : Memref sig .tc .vmem S64x8 .f32) (harg18 : arg18.IsWhole)
  (arg19 : Memref sig .tc .vmem S1x8 .f32) (harg19 : arg19.IsWhole)
  (x0 : Vec Ideal S1x64x1024 .f32) (x5 : Vec Ideal S1024x1024 .f32)
  (s0 : Vec Ideal S8x128x128 .f32) (s2 s3 s4 s5 : Vec Ideal S64x1024 .f32) (s6 : Vec Ideal S512x64 .f32)
  (s7 : Vec Ideal S64x8 .f32) (s8 : Vec Ideal S1x8 .f32)

/-- The chunk data the scratch holds. -/
def heldChunk : Chunk where
  v2 a j := s2 (ix2 a j)
  wkcd a j := s3 (ix2 a j)
  rkdec a j := s4 (ix2 a j)
  wkdw a j := s5 (ix2 a j)
  attn h a b := s6 (ix2 ⟨64 * h.val + a.val, by omega⟩ b)
  gate a h := s7 (ix2 a h)
  sdec h := s8 (ix2 0 h)
/-- The state the scratch holds. -/
def heldState (h : Fin 8) (d e : Fin 128) : EReal := s0 (ix3 h d e)

set_option maxHeartbeats 4000000 in
/-- The chunk's new values, head by head. -/
theorem vnew_apply (h : Fin 8) (a : Fin 64) (d : Fin 128) :
    (![(run.sl.v93 c arg11 harg11 arg13 harg13 arg14 harg14 arg15 harg15 s0 s2 s3 s4), (run.sl.v100 c arg11 harg11 arg13 harg13 arg14 harg14 arg15 harg15 s0 s2 s3 s4), (run.sl.v107 c arg11 harg11 arg13 harg13 arg14 harg14 arg15 harg15 s0 s2 s3 s4), (run.sl.v114 c arg11 harg11 arg13 harg13 arg14 harg14 arg15 harg15 s0 s2 s3 s4), (run.sl.v121 c arg11 harg11 arg13 harg13 arg14 harg14 arg15 harg15 s0 s2 s3 s4), (run.sl.v128 c arg11 harg11 arg13 harg13 arg14 harg14 arg15 harg15 s0 s2 s3 s4), (run.sl.v135 c arg11 harg11 arg13 harg13 arg14 harg14 arg15 harg15 s0 s2 s3 s4), (run.sl.v142 c arg11 harg11 arg13 harg13 arg14 harg14 arg15 harg15 s0 s2 s3 s4)] h) (ix2 a d) = vnew (heldChunk s2 s3 s4 s5 s6 s7 s8) (heldState s0) a (col h d) := by
  simp only [vnew, hd_col, lo_col, heldChunk, heldState]
  unfold col
  fin_cases h
  all_goals pointwise [run.sl.v93, run.sl.v92, run.sl.v5, run.sl.cst, run.sl.v4, run.sl.v2, run.sl.v100, run.sl.v99, run.sl.v11, run.sl.v10, run.sl.v8, run.sl.v107, run.sl.v106, run.sl.v17, run.sl.v16, run.sl.v14, run.sl.v114, run.sl.v113, run.sl.v23, run.sl.v22, run.sl.v20, run.sl.v121, run.sl.v120, run.sl.v29, run.sl.v28, run.sl.v26, run.sl.v128, run.sl.v127, run.sl.v35, run.sl.v34, run.sl.v32, run.sl.v135, run.sl.v134, run.sl.v41, run.sl.v40, run.sl.v38, run.sl.v142, run.sl.v141, run.sl.v47, run.sl.v46, run.sl.v44, Memref.IsWhole.readAt_unread]

set_option maxHeartbeats 4000000 in
/-- What the chunk reads, head by head. -/
theorem oread_apply (h : Fin 8) (a : Fin 64) (d : Fin 128) :
    (![(run.sl.v97 c arg11 harg11 arg13 harg13 arg14 harg14 arg15 harg15 arg17 harg17 s0 s2 s3 s4 s6), (run.sl.v104 c arg11 harg11 arg13 harg13 arg14 harg14 arg15 harg15 arg17 harg17 s0 s2 s3 s4 s6), (run.sl.v111 c arg11 harg11 arg13 harg13 arg14 harg14 arg15 harg15 arg17 harg17 s0 s2 s3 s4 s6), (run.sl.v118 c arg11 harg11 arg13 harg13 arg14 harg14 arg15 harg15 arg17 harg17 s0 s2 s3 s4 s6), (run.sl.v125 c arg11 harg11 arg13 harg13 arg14 harg14 arg15 harg15 arg17 harg17 s0 s2 s3 s4 s6), (run.sl.v132 c arg11 harg11 arg13 harg13 arg14 harg14 arg15 harg15 arg17 harg17 s0 s2 s3 s4 s6), (run.sl.v139 c arg11 harg11 arg13 harg13 arg14 harg14 arg15 harg15 arg17 harg17 s0 s2 s3 s4 s6), (run.sl.v146 c arg11 harg11 arg13 harg13 arg14 harg14 arg15 harg15 arg17 harg17 s0 s2 s3 s4 s6)] h) (ix2 a d) = oread (heldChunk s2 s3 s4 s5 s6 s7 s8) (heldState s0) a (col h d) := by
  have hv := vnew_apply c arg11 harg11 arg13 harg13 arg14 harg14 arg15 harg15 s0 s2 s3 s4 s5 s6 s7 s8
  have hv0 := hv 0; have hv1 := hv 1; have hv2 := hv 2; have hv3 := hv 3
  have hv4 := hv 4; have hv5 := hv 5; have hv6 := hv 6; have hv7 := hv 7
  clear hv
  dsimp only [Matrix.cons_val] at hv0 hv1 hv2 hv3 hv4 hv5 hv6 hv7
  unfold oread
  simp only [hd_col, lo_col]
  generalize vnew (heldChunk s2 s3 s4 s5 s6 s7 s8) (heldState s0) = w at hv0 hv1 hv2 hv3 hv4 hv5 hv6 hv7 ⊢
  simp only [heldChunk, heldState]
  unfold col at hv0 hv1 hv2 hv3 hv4 hv5 hv6 hv7 ⊢
  fin_cases h
  all_goals pointwise [run.sl.v97, run.sl.v96, run.sl.cst_76, run.sl.v94, run.sl.v5, run.sl.cst, run.sl.v4, run.sl.v2, run.sl.v104, run.sl.v103, run.sl.v101, run.sl.v11, run.sl.v10, run.sl.v8, run.sl.v111, run.sl.v110, run.sl.v108, run.sl.v17, run.sl.v16, run.sl.v14, run.sl.v118, run.sl.v117, run.sl.v115, run.sl.v23, run.sl.v22, run.sl.v20, run.sl.v125, run.sl.v124, run.sl.v122, run.sl.v29, run.sl.v28, run.sl.v26, run.sl.v132, run.sl.v131, run.sl.v129, run.sl.v35, run.sl.v34, run.sl.v32, run.sl.v139, run.sl.v138, run.sl.v136, run.sl.v41, run.sl.v40, run.sl.v38, run.sl.v146, run.sl.v145, run.sl.v143, run.sl.v47, run.sl.v46, run.sl.v44, Memref.IsWhole.readAt_unread, hv0, hv1, hv2, hv3, hv4, hv5, hv6, hv7]

set_option maxHeartbeats 4000000 in
/-- The next state, head by head. -/
theorem snext_apply (h : Fin 8) (d e : Fin 128) :
    (![(run.sl.v637 c arg11 harg11 arg13 harg13 arg14 harg14 arg15 harg15 arg16 harg16 arg19 harg19 s0 s2 s3 s4 s5 s8), (run.sl.v640 c arg11 harg11 arg13 harg13 arg14 harg14 arg15 harg15 arg16 harg16 arg19 harg19 s0 s2 s3 s4 s5 s8), (run.sl.v643 c arg11 harg11 arg13 harg13 arg14 harg14 arg15 harg15 arg16 harg16 arg19 harg19 s0 s2 s3 s4 s5 s8), (run.sl.v646 c arg11 harg11 arg13 harg13 arg14 harg14 arg15 harg15 arg16 harg16 arg19 harg19 s0 s2 s3 s4 s5 s8), (run.sl.v649 c arg11 harg11 arg13 harg13 arg14 harg14 arg15 harg15 arg16 harg16 arg19 harg19 s0 s2 s3 s4 s5 s8), (run.sl.v652 c arg11 harg11 arg13 harg13 arg14 harg14 arg15 harg15 arg16 harg16 arg19 harg19 s0 s2 s3 s4 s5 s8), (run.sl.v655 c arg11 harg11 arg13 harg13 arg14 harg14 arg15 harg15 arg16 harg16 arg19 harg19 s0 s2 s3 s4 s5 s8), (run.sl.v658 c arg11 harg11 arg13 harg13 arg14 harg14 arg15 harg15 arg16 harg16 arg19 harg19 s0 s2 s3 s4 s5 s8)] h) (ix3 0 d e) = snext (heldChunk s2 s3 s4 s5 s6 s7 s8) (heldState s0) h d e := by
  have hv := vnew_apply c arg11 harg11 arg13 harg13 arg14 harg14 arg15 harg15 s0 s2 s3 s4 s5 s6 s7 s8
  have hv0 := hv 0; have hv1 := hv 1; have hv2 := hv 2; have hv3 := hv 3
  have hv4 := hv 4; have hv5 := hv 5; have hv6 := hv 6; have hv7 := hv 7
  clear hv
  dsimp only [Matrix.cons_val] at hv0 hv1 hv2 hv3 hv4 hv5 hv6 hv7
  unfold snext
  generalize vnew (heldChunk s2 s3 s4 s5 s6 s7 s8) (heldState s0) = w at hv0 hv1 hv2 hv3 hv4 hv5 hv6 hv7 ⊢
  simp only [heldChunk, heldState]
  unfold col at hv0 hv1 hv2 hv3 hv4 hv5 hv6 hv7 ⊢
  fin_cases h
  all_goals pointwise [run.sl.v637, run.sl.v554, run.sl.v553, run.sl.cst, run.sl.v551, run.sl.v550, run.sl.v4, run.sl.v640, run.sl.v565, run.sl.v564, run.sl.v562, run.sl.v561, run.sl.v10, run.sl.v643, run.sl.v576, run.sl.v575, run.sl.v573, run.sl.v572, run.sl.v16, run.sl.v646, run.sl.v587, run.sl.v586, run.sl.v584, run.sl.v583, run.sl.v22, run.sl.v649, run.sl.v598, run.sl.v597, run.sl.v595, run.sl.v594, run.sl.v28, run.sl.v652, run.sl.v609, run.sl.v608, run.sl.v606, run.sl.v605, run.sl.v34, run.sl.v655, run.sl.v620, run.sl.v619, run.sl.v617, run.sl.v616, run.sl.v40, run.sl.v658, run.sl.v631, run.sl.v630, run.sl.v628, run.sl.v627, run.sl.v46, Memref.IsWhole.readAt_unread, hv0, hv1, hv2, hv3, hv4, hv5, hv6, hv7]

set_option maxHeartbeats 4000000 in
/-- The gated reads side by side. -/
theorem gated_apply_col (a : Fin 64) (h : Fin 8) (d : Fin 128) :
    (run.sl.v659 c arg11 harg11 arg13 harg13 arg14 harg14 arg15 harg15 arg17 harg17 arg18 harg18 s0 s2 s3 s4 s6 s7) (ix2 a (col h d)) = oread (heldChunk s2 s3 s4 s5 s6 s7 s8) (heldState s0) a (col h d) * s7 (ix2 a h) := by
  have ho := oread_apply c arg11 harg11 arg13 harg13 arg14 harg14 arg15 harg15 arg17 harg17 s0 s2 s3 s4 s5 s6 s7 s8
  have ho0 := ho 0; have ho1 := ho 1; have ho2 := ho 2; have ho3 := ho 3
  have ho4 := ho 4; have ho5 := ho 5; have ho6 := ho 6; have ho7 := ho 7
  clear ho
  dsimp only [Matrix.cons_val] at ho0 ho1 ho2 ho3 ho4 ho5 ho6 ho7
  generalize oread (heldChunk s2 s3 s4 s5 s6 s7 s8) (heldState s0) = w at ho0 ho1 ho2 ho3 ho4 ho5 ho6 ho7 ⊢
  unfold col at ho0 ho1 ho2 ho3 ho4 ho5 ho6 ho7 ⊢
  fin_cases h
  all_goals
    pointwise [run.sl.v659, run.sl.v634, run.sl.v633, run.sl.v623, run.sl.v622, run.sl.v612, run.sl.v611, run.sl.v601, run.sl.v600, run.sl.v590, run.sl.v589, run.sl.v579, run.sl.v578, run.sl.v568, run.sl.v567, run.sl.v557, run.sl.v556, Memref.IsWhole.readAt_unread, ho0, ho1, ho2, ho3, ho4, ho5, ho6, ho7]
  all_goals
    repeat first | rw [dif_pos (by omega)] | rw [dif_neg (by omega)]
    refine congrArg (fun q => w a q * _) (Fin.ext ?_)
    show _ + _ = _ + _
    omega

/-- The result block. -/
theorem out_apply (W : Wts) (hwo : ∀ x j, x5 (ix2 x j) = W.wo j x) (a : Fin 64) (j : Fin 1024) :
    (run.sl.v668 c arg2 harg2 arg7 harg7 arg11 harg11 arg13 harg13 arg14 harg14 arg15 harg15 arg17 harg17 arg18 harg18 x0 x5 s0 s2 s3 s4 s6 s7) (ix3 0 a j) = oout (heldChunk s2 s3 s4 s5 s6 s7 s8) (heldState s0) W (tok x0) a j := by
  have hg : ∀ k : Fin 1024, (run.sl.v659 c arg11 harg11 arg13 harg13 arg14 harg14 arg15 harg15 arg17 harg17 arg18 harg18 s0 s2 s3 s4 s6 s7) (ix2 a k) = oread (heldChunk s2 s3 s4 s5 s6 s7 s8) (heldState s0) a k * s7 (ix2 a (hd k)) := by
    intro k
    have h := gated_apply_col c arg11 harg11 arg13 harg13 arg14 harg14 arg15 harg15 arg17 harg17 arg18 harg18 s0 s2 s3 s4 s5 s6 s7 s8 a (hd k) (lo k)
    rwa [col_hd_lo] at h
  unfold oout
  pointwise [run.sl.v668, run.sl.v665, run.sl.v664, run.sl.cst_71, run.sl.v663, run.sl.v661, hg, Memref.IsWhole.readAt_unread, hwo, tok]
  rfl

end Cert.KernelIdeal.Value

end
-- ==== Proof.KernelGlue.lean ====
/- What the scratch arrays and the result block hold after a point, at an index: the pieces the body stores, put together. -/
module

public import proofs.«01_k».proof.Proof.KernelPieces
public import proofs.«01_k».proof.Proof.KernelStep

@[expose] public section

set_option maxRecDepth 16384

noncomputable section

namespace Cert.KernelIdeal.Value

open Idealize.ShloMosaic Cert.Gdn
open Cert.KernelIdeal Cert.KernelIdeal.Body Cert.KernelIdeal.Gen

/-! Pieces that tile an array by heads. -/

/-- Head `h`'s columns lie in the array. -/
theorem col_inb (h : Fin 8) : ∀ a, (![0, 128 * h.val] : Fin 2 → ℕ) a + S64x128.size a ≤ S64x1024.size a
  | ⟨0, _⟩ => (by decide : 0 + 64 ≤ 64)
  | ⟨1, _⟩ => by show 128 * h.val + 128 ≤ 1024; omega
/-- Head `h`'s rows lie in the array. -/
theorem row_inb (h : Fin 8) : ∀ a, (![64 * h.val, 0] : Fin 2 → ℕ) a + S64x64.size a ≤ S512x64.size a
  | ⟨0, _⟩ => by show 64 * h.val + 64 ≤ 512; omega
  | ⟨1, _⟩ => (by decide : 0 + 64 ≤ 64)
/-- Head `h`'s state lies in the array. -/
theorem state_inb (h : Fin 8) : ∀ a, (![h.val, 0, 0] : Fin 3 → ℕ) a + S1x128x128.size a ≤ S8x128x128.size a
  | ⟨0, _⟩ => by show h.val + 1 ≤ 8; omega
  | ⟨1, _⟩ => (by decide : 0 + 128 ≤ 128)
  | ⟨2, _⟩ => (by decide : 0 + 128 ≤ 128)

/-- Head `h`'s columns. -/
def colPiece (h : Fin 8) (q : Vec Ideal S64x128 .f32) : View.Piece (Elt Ideal) S64x1024 .f32 :=
  ⟨Rect.unit (s := S64x1024) ![0, 128 * h.val] S64x128.size (col_inb h), q⟩
/-- Head `h`'s rows. -/
def rowPiece (h : Fin 8) (q : Vec Ideal S64x64 .f32) : View.Piece (Elt Ideal) S512x64 .f32 :=
  ⟨Rect.unit (s := S512x64) ![64 * h.val, 0] S64x64.size (row_inb h), q⟩
/-- Head `h`'s state. -/
def statePiece (h : Fin 8) (q : Vec Ideal S1x128x128 .f32) : View.Piece (Elt Ideal) S8x128x128 .f32 :=
  ⟨Rect.unit (s := S8x128x128) ![h.val, 0, 0] S1x128x128.size (state_inb h), q⟩
/-- One piece per head, the last stored first. -/
def heads {s u : Shape} (P : Fin 8 → Vec Ideal u .f32 → View.Piece (Elt Ideal) s .f32) (q : Fin 8 → Vec Ideal u .f32) :
    List (View.Piece (Elt Ideal) s .f32) :=
  [P 7 (q 7), P 6 (q 6), P 5 (q 5), P 4 (q 4), P 3 (q 3), P 2 (q 2), P 1 (q 1), P 0 (q 0)]

/-- Each of the pieces is some head's. -/
theorem heads_mem {s u : Shape} (P : Fin 8 → Vec Ideal u .f32 → View.Piece (Elt Ideal) s .f32) (q : Fin 8 → Vec Ideal u .f32)
    {p} (h : p ∈ heads P q) : ∃ h, p = P h (q h) := by
  simp only [heads, List.mem_cons, List.not_mem_nil, or_false] at h
  rcases h with h | h | h | h | h | h | h | h <;> exact ⟨_, h⟩

/-- Columns stored head by head read back as one array. -/
theorem glue_cols (v : View sig .tc .vmem S64x1024 .f32) (q : Fin 8 → Vec Ideal S64x128 .f32) (f : Fin 64 → Fin 1024 → EReal)
    (hq : ∀ h a d, q h (ix2 a d) = f a (col h d)) {L} (hL : L = heads colPiece q) (hc : ∀ y, ∃ p ∈ L, y ∈ p.1.set) (a : Fin 64) (j : Fin 1024) :
    glue v L (ix2 a j) = f a j := by
  subst hL
  refine View.read_writes_apply_of_pieces v _ (fun y : S64x1024.Idx => f (y 0) (y 1)) _ (fun p hp x => ?_) (ix2 a j) (hc _)
  obtain ⟨h, rfl⟩ := heads_mem _ _ hp
  have e : x = ix2 (n0 := 64) (n1 := 128) (x 0) (x 1) := eq_ix2 x
  refine (congrArg (q h) e).trans ((hq h (x 0) (x 1)).trans (congrArg₂ f (Fin.ext ?_) (Fin.ext ?_)))
  · exact ((ValueKit.rect_emb_unit_val _ _ (col_inb h) x 0).trans (Nat.zero_add (x 0).val)).symm
  · exact (ValueKit.rect_emb_unit_val _ _ (col_inb h) x 1).symm

/-- Rows stored head by head read back as one array. -/
theorem glue_rows (v : View sig .tc .vmem S512x64 .f32) (q : Fin 8 → Vec Ideal S64x64 .f32) (f : Fin 8 → Fin 64 → Fin 64 → EReal)
    (hq : ∀ h a b, q h (ix2 a b) = f h a b) {L} (hL : L = heads rowPiece q) (hc : ∀ y, ∃ p ∈ L, y ∈ p.1.set) (h : Fin 8) (a b : Fin 64) :
    glue v L (ix2 ⟨64 * h.val + a.val, by omega⟩ b) = f h a b := by
  subst hL
  have hG := View.read_writes_apply_of_pieces v v.junk (fun y : S512x64.Idx => f ⟨(y 0).val / 64, by have := (y 0).isLt; change (y 0).val < 512 at this; omega⟩ ⟨(y 0).val % 64, by omega⟩ (y 1)) (heads rowPiece q)
    (fun p hp x => by
      obtain ⟨h, rfl⟩ := heads_mem _ _ hp
      have e : x = ix2 (n0 := 64) (n1 := 64) (x 0) (x 1) := eq_ix2 x
      have e0 : (((rowPiece h (q h)).1.emb x) 0).val = 64 * h.val + (x 0).val := ValueKit.rect_emb_unit_val _ _ (row_inb h) x 0
      have hx : (x 0).val < 64 := (x 0).isLt
      refine (congrArg (q h) e).trans ((hq h (x 0) (x 1)).trans ?_)
      have e1 : (((rowPiece h (q h)).1.emb x) 1) = x 1 := Fin.ext ((ValueKit.rect_emb_unit_val _ _ (row_inb h) x 1).trans (Nat.zero_add (x 1).val))
      rw [e1]
      refine congrArg₂ (fun u v => f u v (x 1)) (Fin.ext ?_) (Fin.ext ?_)
      · show h.val = _ / 64; rw [e0]; omega
      · show (x 0).val = _ % 64; rw [e0]; omega)
    (ix2 ⟨64 * h.val + a.val, by omega⟩ b) (hc _)
  refine hG.trans ?_
  refine congrArg₂ (fun u v => f u v b) (Fin.ext ?_) (Fin.ext ?_)
  · show (64 * h.val + a.val) / 64 = _; omega
  · show (64 * h.val + a.val) % 64 = _; omega

/-- A state stored head by head reads back as one array. -/
theorem glue_state (v : View sig .tc .vmem S8x128x128 .f32) (q : Fin 8 → Vec Ideal S1x128x128 .f32) (f : Fin 8 → Fin 128 → Fin 128 → EReal)
    (hq : ∀ h d e, q h (ix3 0 d e) = f h d e) {L} (hL : L = heads statePiece q) (hc : ∀ y, ∃ p ∈ L, y ∈ p.1.set) (h : Fin 8) (d e : Fin 128) :
    glue v L (ix3 h d e) = f h d e := by
  subst hL
  refine View.read_writes_apply_of_pieces v _ (fun y : S8x128x128.Idx => f (y 0) (y 1) (y 2)) _ (fun p hp x => ?_) (ix3 h d e) (hc _)
  obtain ⟨h, rfl⟩ := heads_mem _ _ hp
  have e : x = ix3 (n0 := 1) (n1 := 128) (n2 := 128) (x 0) (x 1) (x 2) := eq_ix3 x
  have h0 : (x 0).val = 0 := by have h := (x 0).isLt; change (x 0).val < 1 at h; omega
  have e' : x = ix3 (n0 := 1) (n1 := 128) (n2 := 128) 0 (x 1) (x 2) := by
    refine e.trans (congrArg (fun z => ix3 (n0 := 1) (n1 := 128) (n2 := 128) z (x 1) (x 2)) (Fin.ext h0))
  refine (congrArg (q h) e').trans ((hq h (x 1) (x 2)).trans ?_)
  have e0 : (((statePiece h (q h)).1.emb x) 0) = h :=
    Fin.ext ((ValueKit.rect_emb_unit_val _ _ (state_inb h) x 0).trans (by rw [h0]; rfl))
  have e1 : (((statePiece h (q h)).1.emb x) 1) = x 1 := Fin.ext ((ValueKit.rect_emb_unit_val _ _ (state_inb h) x 1).trans (Nat.zero_add (x 1).val))
  have e2 : (((statePiece h (q h)).1.emb x) 2) = x 2 := Fin.ext ((ValueKit.rect_emb_unit_val _ _ (state_inb h) x 2).trans (Nat.zero_add (x 2).val))
  show f h (x 1) (x 2) = f _ _ _
  rw [e0, e1, e2]

/-- A whole array stored at once reads back. -/
theorem glue_whole {s : Shape} (v : View sig .tc .vmem s .f32) {off : Fin s.rank → ℕ} (inb : ∀ a, off a + s.size a ≤ s.size a)
    (q : Vec Ideal s .f32) {L} (hL : L = [⟨Rect.unit off s.size inb, q⟩]) (hc : ∀ y, ∃ p ∈ L, y ∈ p.1.set) (y : s.Idx) :
    glue v L y = q y := by
  subst hL
  refine View.read_writes_apply_of_pieces v _ q _ (fun p hp x => ?_) y (hc _)
  obtain rfl := List.mem_singleton.mp hp
  refine congrArg q (funext fun a => Fin.ext ?_)
  refine ((ValueKit.rect_emb_unit_val off s.size inb x a).trans ?_).symm
  have := inb a
  omega

variable (m : (ℓ : Loc nD τ sig) → Buf (Elt Ideal) ℓ) (c : Dev nD) (t : Fin cfg0.N) (s : Scr Ideal)

/-- The chunk that the scratch holds. -/
def chunkOf (s : Scr Ideal) : Chunk := heldChunk s.v2 s.wkcd s.rkdec s.wkdw s.attn s.gate s.sdec

/-- The rows of keys read before the chunk prepared at point `t`. -/
def prevKey (t : Fin cfg0.N) (s : Scr Ideal) : Fin 1024 → EReal := pkey (grid0.coords t) s.prev

section
variable {W : Wts} (hW : Holds W (iblk m c 2 t) (iblk m c 3 t) (iblk m c 4 t) (iblk m c 5 t) (iblk m c 6 t) (iblk m c 7 t))
include hW

set_option maxHeartbeats 4000000 in
/-- The last read key of the chunk prepared is kept. -/
theorem prev_after (j : Fin 1024) : (scrOut m c t s).prev (ix2 0 j) = rk (tok (iblk m c 1 t)) 63 j := by
  have hL : (pcs m c t s).prev = [⟨Rect.unit (s := S1x1024) ![0, 0] S1x1024.size inb_S1x1024_S1x1024_0_0, k0_pay57 (run.sl.v49 c (ms1 t) (hs1 t) (iblk m c 1 t)) (run.sl.v193 c (ms1 t) (hs1 t) (iblk m c 1 t)) (run.sl.v204 c (ms1 t) (hs1 t) (iblk m c 1 t)) (run.sl.v215 c (ms1 t) (hs1 t) (iblk m c 1 t)) (run.sl.v226 c (ms1 t) (hs1 t) (iblk m c 1 t)) (run.sl.v237 c (ms1 t) (hs1 t) (iblk m c 1 t)) (run.sl.v248 c (ms1 t) (hs1 t) (iblk m c 1 t)) (run.sl.v249 c (ms1 t) (hs1 t) (iblk m c 1 t)) (run.sl.v253 c (ms1 t) (hs1 t) (iblk m c 1 t)) run.sl.v188⟩] := rfl
  have h1 := glue_whole sc1.view inb_S1x1024_S1x1024_0_0 _ hL (cover_prev m c t s)
  have h2 := last_apply c (ms1 t) (hs1 t) (iblk m c 1 t) j
  have h3 : (scrOut m c t s).prev = glue sc1.view (pcs m c t s).prev := rfl
  rw [h3, h1]
  exact h2

/-- The gates are kept. -/
theorem gate_after (a : Fin 64) (h : Fin 8) :
    (scrOut m c t s).gate (ix2 a h) = (prep W (tok (iblk m c 1 t)) (prevKey t s)).gate a h := by
  refine (glue_whole sc7.view _ (run.sl.v676 c (ms1 t) (hs1 t) (ms3 t) (hs3 t) (iblk m c 1 t) (iblk m c 3 t)) (L := (pcs m c t s).gate) rfl (cover_gate m c t s) (ix2 a h)).trans ?_
  exact gate_stored c (grid0.coords t) (ms1 t) (hs1 t) (ms3 t) (hs3 t) (iblk m c 1 t) (iblk m c 2 t) (iblk m c 3 t) (iblk m c 4 t) (iblk m c 5 t) (iblk m c 6 t) (iblk m c 7 t) s.prev hW a h

/-- The decays of the whole chunk are kept. -/
theorem sdec_after (h : Fin 8) :
    (scrOut m c t s).sdec (ix2 0 h) = (prep W (tok (iblk m c 1 t)) (prevKey t s)).sdec h := by
  refine (glue_whole sc8.view _ (run.sl.v673 c (ms1 t) (hs1 t) (ms4 t) (hs4 t) (ms6 t) (hs6 t) (ms7 t) (hs7 t) (iblk m c 1 t) (iblk m c 4 t) (iblk m c 6 t) (iblk m c 7 t)) (L := (pcs m c t s).sdec) rfl (cover_sdec m c t s) (ix2 0 h)).trans ?_
  exact sdec_stored c (grid0.coords t) (ms1 t) (hs1 t) (ms4 t) (hs4 t) (ms6 t) (hs6 t) (ms7 t) (hs7 t) (iblk m c 1 t) (iblk m c 2 t) (iblk m c 3 t) (iblk m c 4 t) (iblk m c 5 t) (iblk m c 6 t) (iblk m c 7 t) s.prev hW h

/-- The solved values are kept. -/
theorem v2_after (hp : ∀ j, IsReal (prevKey t s j)) (a : Fin 64) (j : Fin 1024) :
    (scrOut m c t s).v2 (ix2 a j) = (prep W (tok (iblk m c 1 t)) (prevKey t s)).v2 a j :=
  glue_cols sc2.view ![(run.sl.v691 c (grid0.coords t) (ms1 t) (hs1 t) (ms2 t) (hs2 t) (ms3 t) (hs3 t) (ms4 t) (hs4 t) (ms6 t) (hs6 t) (ms7 t) (hs7 t) sc1 (Memref.isWhole_whole _) (iblk m c 1 t) (iblk m c 2 t) (iblk m c 3 t) (iblk m c 4 t) (iblk m c 6 t) (iblk m c 7 t) s.prev), (run.sl.v726 c (grid0.coords t) (ms1 t) (hs1 t) (ms2 t) (hs2 t) (ms3 t) (hs3 t) (ms4 t) (hs4 t) (ms6 t) (hs6 t) (ms7 t) (hs7 t) sc1 (Memref.isWhole_whole _) (iblk m c 1 t) (iblk m c 2 t) (iblk m c 3 t) (iblk m c 4 t) (iblk m c 6 t) (iblk m c 7 t) s.prev), (run.sl.v761 c (grid0.coords t) (ms1 t) (hs1 t) (ms2 t) (hs2 t) (ms3 t) (hs3 t) (ms4 t) (hs4 t) (ms6 t) (hs6 t) (ms7 t) (hs7 t) sc1 (Memref.isWhole_whole _) (iblk m c 1 t) (iblk m c 2 t) (iblk m c 3 t) (iblk m c 4 t) (iblk m c 6 t) (iblk m c 7 t) s.prev), (run.sl.v796 c (grid0.coords t) (ms1 t) (hs1 t) (ms2 t) (hs2 t) (ms3 t) (hs3 t) (ms4 t) (hs4 t) (ms6 t) (hs6 t) (ms7 t) (hs7 t) sc1 (Memref.isWhole_whole _) (iblk m c 1 t) (iblk m c 2 t) (iblk m c 3 t) (iblk m c 4 t) (iblk m c 6 t) (iblk m c 7 t) s.prev), (run.sl.v831 c (grid0.coords t) (ms1 t) (hs1 t) (ms2 t) (hs2 t) (ms3 t) (hs3 t) (ms4 t) (hs4 t) (ms6 t) (hs6 t) (ms7 t) (hs7 t) sc1 (Memref.isWhole_whole _) (iblk m c 1 t) (iblk m c 2 t) (iblk m c 3 t) (iblk m c 4 t) (iblk m c 6 t) (iblk m c 7 t) s.prev), (run.sl.v866 c (grid0.coords t) (ms1 t) (hs1 t) (ms2 t) (hs2 t) (ms3 t) (hs3 t) (ms4 t) (hs4 t) (ms6 t) (hs6 t) (ms7 t) (hs7 t) sc1 (Memref.isWhole_whole _) (iblk m c 1 t) (iblk m c 2 t) (iblk m c 3 t) (iblk m c 4 t) (iblk m c 6 t) (iblk m c 7 t) s.prev), (run.sl.v901 c (grid0.coords t) (ms1 t) (hs1 t) (ms2 t) (hs2 t) (ms3 t) (hs3 t) (ms4 t) (hs4 t) (ms6 t) (hs6 t) (ms7 t) (hs7 t) sc1 (Memref.isWhole_whole _) (iblk m c 1 t) (iblk m c 2 t) (iblk m c 3 t) (iblk m c 4 t) (iblk m c 6 t) (iblk m c 7 t) s.prev), k0_pay202 (run.sl.v60 c (ms1 t) (hs1 t) (ms3 t) (hs3 t) (iblk m c 1 t) (iblk m c 3 t)) (run.sl.v90 c (ms1 t) (hs1 t) (ms2 t) (hs2 t) (iblk m c 1 t) (iblk m c 2 t)) (run.sl.v181 c (ms1 t) (hs1 t) (ms4 t) (hs4 t) (ms6 t) (hs6 t) (ms7 t) (hs7 t) (iblk m c 1 t) (iblk m c 4 t) (iblk m c 6 t) (iblk m c 7 t)) (run.sl.r_20 c (grid0.coords t) (ms1 t) (hs1 t) (ms3 t) (hs3 t) sc1 (Memref.isWhole_whole _) (iblk m c 1 t) (iblk m c 3 t) s.prev) (run.sl.v546 c (grid0.coords t) (ms1 t) (hs1 t) (ms3 t) (hs3 t) (ms4 t) (hs4 t) (ms6 t) (hs6 t) (ms7 t) (hs7 t) sc1 (Memref.isWhole_whole _) (iblk m c 1 t) (iblk m c 3 t) (iblk m c 4 t) (iblk m c 6 t) (iblk m c 7 t) s.prev)] _
    (fun h a d => v2_stored c (grid0.coords t) (ms1 t) (hs1 t) (ms2 t) (hs2 t) (ms3 t) (hs3 t) (ms4 t) (hs4 t) (ms6 t) (hs6 t) (ms7 t) (hs7 t) sc1 (Memref.isWhole_whole _) (iblk m c 1 t) (iblk m c 2 t) (iblk m c 3 t) (iblk m c 4 t) (iblk m c 5 t) (iblk m c 6 t) (iblk m c 7 t) s.prev hW hp h a d) rfl (cover_v2 m c t s) a j

/-- The solved write keys are kept. -/
theorem wkcd_after (hp : ∀ j, IsReal (prevKey t s j)) (a : Fin 64) (j : Fin 1024) :
    (scrOut m c t s).wkcd (ix2 a j) = (prep W (tok (iblk m c 1 t)) (prevKey t s)).wkcd a j :=
  glue_cols sc3.view ![(run.sl.v695 c (grid0.coords t) (ms1 t) (hs1 t) (ms2 t) (hs2 t) (ms3 t) (hs3 t) (ms4 t) (hs4 t) (ms6 t) (hs6 t) (ms7 t) (hs7 t) sc1 (Memref.isWhole_whole _) (iblk m c 1 t) (iblk m c 2 t) (iblk m c 3 t) (iblk m c 4 t) (iblk m c 6 t) (iblk m c 7 t) s.prev), (run.sl.v730 c (grid0.coords t) (ms1 t) (hs1 t) (ms2 t) (hs2 t) (ms3 t) (hs3 t) (ms4 t) (hs4 t) (ms6 t) (hs6 t) (ms7 t) (hs7 t) sc1 (Memref.isWhole_whole _) (iblk m c 1 t) (iblk m c 2 t) (iblk m c 3 t) (iblk m c 4 t) (iblk m c 6 t) (iblk m c 7 t) s.prev), (run.sl.v765 c (grid0.coords t) (ms1 t) (hs1 t) (ms2 t) (hs2 t) (ms3 t) (hs3 t) (ms4 t) (hs4 t) (ms6 t) (hs6 t) (ms7 t) (hs7 t) sc1 (Memref.isWhole_whole _) (iblk m c 1 t) (iblk m c 2 t) (iblk m c 3 t) (iblk m c 4 t) (iblk m c 6 t) (iblk m c 7 t) s.prev), (run.sl.v800 c (grid0.coords t) (ms1 t) (hs1 t) (ms2 t) (hs2 t) (ms3 t) (hs3 t) (ms4 t) (hs4 t) (ms6 t) (hs6 t) (ms7 t) (hs7 t) sc1 (Memref.isWhole_whole _) (iblk m c 1 t) (iblk m c 2 t) (iblk m c 3 t) (iblk m c 4 t) (iblk m c 6 t) (iblk m c 7 t) s.prev), (run.sl.v835 c (grid0.coords t) (ms1 t) (hs1 t) (ms2 t) (hs2 t) (ms3 t) (hs3 t) (ms4 t) (hs4 t) (ms6 t) (hs6 t) (ms7 t) (hs7 t) sc1 (Memref.isWhole_whole _) (iblk m c 1 t) (iblk m c 2 t) (iblk m c 3 t) (iblk m c 4 t) (iblk m c 6 t) (iblk m c 7 t) s.prev), (run.sl.v870 c (grid0.coords t) (ms1 t) (hs1 t) (ms2 t) (hs2 t) (ms3 t) (hs3 t) (ms4 t) (hs4 t) (ms6 t) (hs6 t) (ms7 t) (hs7 t) sc1 (Memref.isWhole_whole _) (iblk m c 1 t) (iblk m c 2 t) (iblk m c 3 t) (iblk m c 4 t) (iblk m c 6 t) (iblk m c 7 t) s.prev), (run.sl.v905 c (grid0.coords t) (ms1 t) (hs1 t) (ms2 t) (hs2 t) (ms3 t) (hs3 t) (ms4 t) (hs4 t) (ms6 t) (hs6 t) (ms7 t) (hs7 t) sc1 (Memref.isWhole_whole _) (iblk m c 1 t) (iblk m c 2 t) (iblk m c 3 t) (iblk m c 4 t) (iblk m c 6 t) (iblk m c 7 t) s.prev), k0_pay203 (run.sl.v60 c (ms1 t) (hs1 t) (ms3 t) (hs3 t) (iblk m c 1 t) (iblk m c 3 t)) (run.sl.v90 c (ms1 t) (hs1 t) (ms2 t) (hs2 t) (iblk m c 1 t) (iblk m c 2 t)) (run.sl.v181 c (ms1 t) (hs1 t) (ms4 t) (hs4 t) (ms6 t) (hs6 t) (ms7 t) (hs7 t) (iblk m c 1 t) (iblk m c 4 t) (iblk m c 6 t) (iblk m c 7 t)) (run.sl.r_20 c (grid0.coords t) (ms1 t) (hs1 t) (ms3 t) (hs3 t) sc1 (Memref.isWhole_whole _) (iblk m c 1 t) (iblk m c 3 t) s.prev) (run.sl.v546 c (grid0.coords t) (ms1 t) (hs1 t) (ms3 t) (hs3 t) (ms4 t) (hs4 t) (ms6 t) (hs6 t) (ms7 t) (hs7 t) sc1 (Memref.isWhole_whole _) (iblk m c 1 t) (iblk m c 3 t) (iblk m c 4 t) (iblk m c 6 t) (iblk m c 7 t) s.prev)] _
    (fun h a d => wkcd_stored c (grid0.coords t) (ms1 t) (hs1 t) (ms2 t) (hs2 t) (ms3 t) (hs3 t) (ms4 t) (hs4 t) (ms6 t) (hs6 t) (ms7 t) (hs7 t) sc1 (Memref.isWhole_whole _) (iblk m c 1 t) (iblk m c 2 t) (iblk m c 3 t) (iblk m c 4 t) (iblk m c 5 t) (iblk m c 6 t) (iblk m c 7 t) s.prev hW hp h a d) rfl (cover_wkcd m c t s) a j

/-- The read keys times their decays are kept. -/
theorem rkdec_after (a : Fin 64) (j : Fin 1024) :
    (scrOut m c t s).rkdec (ix2 a j) = (prep W (tok (iblk m c 1 t)) (prevKey t s)).rkdec a j :=
  glue_cols sc4.view ![(run.sl.v701 c (ms1 t) (hs1 t) (ms4 t) (hs4 t) (ms6 t) (hs6 t) (ms7 t) (hs7 t) (iblk m c 1 t) (iblk m c 4 t) (iblk m c 6 t) (iblk m c 7 t)), (run.sl.v736 c (ms1 t) (hs1 t) (ms4 t) (hs4 t) (ms6 t) (hs6 t) (ms7 t) (hs7 t) (iblk m c 1 t) (iblk m c 4 t) (iblk m c 6 t) (iblk m c 7 t)), (run.sl.v771 c (ms1 t) (hs1 t) (ms4 t) (hs4 t) (ms6 t) (hs6 t) (ms7 t) (hs7 t) (iblk m c 1 t) (iblk m c 4 t) (iblk m c 6 t) (iblk m c 7 t)), (run.sl.v806 c (ms1 t) (hs1 t) (ms4 t) (hs4 t) (ms6 t) (hs6 t) (ms7 t) (hs7 t) (iblk m c 1 t) (iblk m c 4 t) (iblk m c 6 t) (iblk m c 7 t)), (run.sl.v841 c (ms1 t) (hs1 t) (ms4 t) (hs4 t) (ms6 t) (hs6 t) (ms7 t) (hs7 t) (iblk m c 1 t) (iblk m c 4 t) (iblk m c 6 t) (iblk m c 7 t)), (run.sl.v876 c (ms1 t) (hs1 t) (ms4 t) (hs4 t) (ms6 t) (hs6 t) (ms7 t) (hs7 t) (iblk m c 1 t) (iblk m c 4 t) (iblk m c 6 t) (iblk m c 7 t)), (run.sl.v911 c (ms1 t) (hs1 t) (ms4 t) (hs4 t) (ms6 t) (hs6 t) (ms7 t) (hs7 t) (iblk m c 1 t) (iblk m c 4 t) (iblk m c 6 t) (iblk m c 7 t)), k0_pay204 (run.sl.v181 c (ms1 t) (hs1 t) (ms4 t) (hs4 t) (ms6 t) (hs6 t) (ms7 t) (hs7 t) (iblk m c 1 t) (iblk m c 4 t) (iblk m c 6 t) (iblk m c 7 t)) (run.sl.r c (ms1 t) (hs1 t) (iblk m c 1 t))] _
    (fun h a d => rkdec_stored c (grid0.coords t) (ms1 t) (hs1 t) (ms4 t) (hs4 t) (ms6 t) (hs6 t) (ms7 t) (hs7 t) (iblk m c 1 t) (iblk m c 2 t) (iblk m c 3 t) (iblk m c 4 t) (iblk m c 5 t) (iblk m c 6 t) (iblk m c 7 t) s.prev hW h a d) rfl (cover_rkdec m c t s) a j

/-- The write keys times the decays after them are kept. -/
theorem wkdw_after (a : Fin 64) (j : Fin 1024) :
    (scrOut m c t s).wkdw (ix2 a j) = (prep W (tok (iblk m c 1 t)) (prevKey t s)).wkdw a j :=
  glue_cols sc5.view ![(run.sl.v711 c (grid0.coords t) (ms1 t) (hs1 t) (ms4 t) (hs4 t) (ms6 t) (hs6 t) (ms7 t) (hs7 t) sc1 (Memref.isWhole_whole _) (iblk m c 1 t) (iblk m c 4 t) (iblk m c 6 t) (iblk m c 7 t) s.prev), (run.sl.v746 c (grid0.coords t) (ms1 t) (hs1 t) (ms4 t) (hs4 t) (ms6 t) (hs6 t) (ms7 t) (hs7 t) sc1 (Memref.isWhole_whole _) (iblk m c 1 t) (iblk m c 4 t) (iblk m c 6 t) (iblk m c 7 t) s.prev), (run.sl.v781 c (grid0.coords t) (ms1 t) (hs1 t) (ms4 t) (hs4 t) (ms6 t) (hs6 t) (ms7 t) (hs7 t) sc1 (Memref.isWhole_whole _) (iblk m c 1 t) (iblk m c 4 t) (iblk m c 6 t) (iblk m c 7 t) s.prev), (run.sl.v816 c (grid0.coords t) (ms1 t) (hs1 t) (ms4 t) (hs4 t) (ms6 t) (hs6 t) (ms7 t) (hs7 t) sc1 (Memref.isWhole_whole _) (iblk m c 1 t) (iblk m c 4 t) (iblk m c 6 t) (iblk m c 7 t) s.prev), (run.sl.v851 c (grid0.coords t) (ms1 t) (hs1 t) (ms4 t) (hs4 t) (ms6 t) (hs6 t) (ms7 t) (hs7 t) sc1 (Memref.isWhole_whole _) (iblk m c 1 t) (iblk m c 4 t) (iblk m c 6 t) (iblk m c 7 t) s.prev), (run.sl.v886 c (grid0.coords t) (ms1 t) (hs1 t) (ms4 t) (hs4 t) (ms6 t) (hs6 t) (ms7 t) (hs7 t) sc1 (Memref.isWhole_whole _) (iblk m c 1 t) (iblk m c 4 t) (iblk m c 6 t) (iblk m c 7 t) s.prev), (run.sl.v921 c (grid0.coords t) (ms1 t) (hs1 t) (ms4 t) (hs4 t) (ms6 t) (hs6 t) (ms7 t) (hs7 t) sc1 (Memref.isWhole_whole _) (iblk m c 1 t) (iblk m c 4 t) (iblk m c 6 t) (iblk m c 7 t) s.prev), k0_pay1 (run.sl.r_1 c (grid0.coords t) (ms1 t) (hs1 t) sc1 (Memref.isWhole_whole _) (iblk m c 1 t) s.prev) (run.sl.r_24 c (ms1 t) (hs1 t) (ms4 t) (hs4 t) (ms6 t) (hs6 t) (ms7 t) (hs7 t) (iblk m c 1 t) (iblk m c 4 t) (iblk m c 6 t) (iblk m c 7 t)) (run.sl.r_25 c (ms1 t) (hs1 t) (ms4 t) (hs4 t) (ms6 t) (hs6 t) (ms7 t) (hs7 t) (iblk m c 1 t) (iblk m c 4 t) (iblk m c 6 t) (iblk m c 7 t))] _
    (fun h a d => wkdw_stored c (grid0.coords t) (ms1 t) (hs1 t) (ms4 t) (hs4 t) (ms6 t) (hs6 t) (ms7 t) (hs7 t) sc1 (Memref.isWhole_whole _) (iblk m c 1 t) (iblk m c 2 t) (iblk m c 3 t) (iblk m c 4 t) (iblk m c 5 t) (iblk m c 6 t) (iblk m c 7 t) s.prev hW h a d) rfl (cover_wkdw m c t s) a j

/-- The attention weights are kept. -/
theorem attn_after (h : Fin 8) (a b : Fin 64) :
    (scrOut m c t s).attn (ix2 ⟨64 * h.val + a.val, by omega⟩ b) = (prep W (tok (iblk m c 1 t)) (prevKey t s)).attn h a b :=
  glue_rows sc6.view ![k0_pay64 (run.sl.r_3 c (grid0.coords t) (ms1 t) (hs1 t) (ms3 t) (hs3 t) sc1 (Memref.isWhole_whole _) (iblk m c 1 t) (iblk m c 3 t) s.prev) (k0_pay60 run.sl.v147 run.sl.v148) (run.sl.r_4 c (ms1 t) (hs1 t) (ms4 t) (hs4 t) (ms6 t) (hs6 t) (ms7 t) (hs7 t) (iblk m c 1 t) (iblk m c 4 t) (iblk m c 6 t) (iblk m c 7 t)) run.sl.cst_152, k0_pay69 (run.sl.v60 c (ms1 t) (hs1 t) (ms3 t) (hs3 t) (iblk m c 1 t) (iblk m c 3 t)) run.sl.v147 run.sl.v148 (run.sl.v181 c (ms1 t) (hs1 t) (ms4 t) (hs4 t) (ms6 t) (hs6 t) (ms7 t) (hs7 t) (iblk m c 1 t) (iblk m c 4 t) (iblk m c 6 t) (iblk m c 7 t)) (run.sl.v182 c (ms1 t) (hs1 t) (ms4 t) (hs4 t) (ms6 t) (hs6 t) (ms7 t) (hs7 t) (iblk m c 1 t) (iblk m c 4 t) (iblk m c 6 t) (iblk m c 7 t)) (run.sl.r c (ms1 t) (hs1 t) (iblk m c 1 t)) (run.sl.r_1 c (grid0.coords t) (ms1 t) (hs1 t) sc1 (Memref.isWhole_whole _) (iblk m c 1 t) s.prev), k0_pay75 (run.sl.v181 c (ms1 t) (hs1 t) (ms4 t) (hs4 t) (ms6 t) (hs6 t) (ms7 t) (hs7 t) (iblk m c 1 t) (iblk m c 4 t) (iblk m c 6 t) (iblk m c 7 t)) (run.sl.v182 c (ms1 t) (hs1 t) (ms4 t) (hs4 t) (ms6 t) (hs6 t) (ms7 t) (hs7 t) (iblk m c 1 t) (iblk m c 4 t) (iblk m c 6 t) (iblk m c 7 t)) (run.sl.r_9 c (grid0.coords t) (ms1 t) (hs1 t) (ms3 t) (hs3 t) sc1 (Memref.isWhole_whole _) (iblk m c 1 t) (iblk m c 3 t) s.prev) (k0_pay72 run.sl.v147 run.sl.v148), k0_pay80 (run.sl.v60 c (ms1 t) (hs1 t) (ms3 t) (hs3 t) (iblk m c 1 t) (iblk m c 3 t)) run.sl.v147 run.sl.v148 (run.sl.v181 c (ms1 t) (hs1 t) (ms4 t) (hs4 t) (ms6 t) (hs6 t) (ms7 t) (hs7 t) (iblk m c 1 t) (iblk m c 4 t) (iblk m c 6 t) (iblk m c 7 t)) (run.sl.v182 c (ms1 t) (hs1 t) (ms4 t) (hs4 t) (ms6 t) (hs6 t) (ms7 t) (hs7 t) (iblk m c 1 t) (iblk m c 4 t) (iblk m c 6 t) (iblk m c 7 t)) (run.sl.r c (ms1 t) (hs1 t) (iblk m c 1 t)) (run.sl.r_1 c (grid0.coords t) (ms1 t) (hs1 t) sc1 (Memref.isWhole_whole _) (iblk m c 1 t) s.prev), k0_pay85 run.sl.v147 run.sl.v148 (run.sl.v181 c (ms1 t) (hs1 t) (ms4 t) (hs4 t) (ms6 t) (hs6 t) (ms7 t) (hs7 t) (iblk m c 1 t) (iblk m c 4 t) (iblk m c 6 t) (iblk m c 7 t)) (run.sl.v182 c (ms1 t) (hs1 t) (ms4 t) (hs4 t) (ms6 t) (hs6 t) (ms7 t) (hs7 t) (iblk m c 1 t) (iblk m c 4 t) (iblk m c 6 t) (iblk m c 7 t)) (run.sl.r c (ms1 t) (hs1 t) (iblk m c 1 t)) (run.sl.r_1 c (grid0.coords t) (ms1 t) (hs1 t) sc1 (Memref.isWhole_whole _) (iblk m c 1 t) s.prev) (run.sl.r_13 c (grid0.coords t) (ms1 t) (hs1 t) (ms3 t) (hs3 t) sc1 (Memref.isWhole_whole _) (iblk m c 1 t) (iblk m c 3 t) s.prev), k0_pay91 (run.sl.r_17 c (grid0.coords t) (ms1 t) (hs1 t) (ms3 t) (hs3 t) (ms4 t) (hs4 t) (ms6 t) (hs6 t) (ms7 t) (hs7 t) sc1 (Memref.isWhole_whole _) (iblk m c 1 t) (iblk m c 3 t) (iblk m c 4 t) (iblk m c 6 t) (iblk m c 7 t) s.prev), k0_pay96 (run.sl.v60 c (ms1 t) (hs1 t) (ms3 t) (hs3 t) (iblk m c 1 t) (iblk m c 3 t)) run.sl.v147 run.sl.v148 (run.sl.v181 c (ms1 t) (hs1 t) (ms4 t) (hs4 t) (ms6 t) (hs6 t) (ms7 t) (hs7 t) (iblk m c 1 t) (iblk m c 4 t) (iblk m c 6 t) (iblk m c 7 t)) (run.sl.v182 c (ms1 t) (hs1 t) (ms4 t) (hs4 t) (ms6 t) (hs6 t) (ms7 t) (hs7 t) (iblk m c 1 t) (iblk m c 4 t) (iblk m c 6 t) (iblk m c 7 t)) (run.sl.r c (ms1 t) (hs1 t) (iblk m c 1 t)) (run.sl.r_1 c (grid0.coords t) (ms1 t) (hs1 t) sc1 (Memref.isWhole_whole _) (iblk m c 1 t) s.prev), (run.sl.v501 c (grid0.coords t) (ms1 t) (hs1 t) (ms3 t) (hs3 t) (ms4 t) (hs4 t) (ms6 t) (hs6 t) (ms7 t) (hs7 t) sc1 (Memref.isWhole_whole _) (iblk m c 1 t) (iblk m c 3 t) (iblk m c 4 t) (iblk m c 6 t) (iblk m c 7 t) s.prev)] _
    (fun h a b => attn_apply c (grid0.coords t) (ms1 t) (hs1 t) (ms3 t) (hs3 t) (ms4 t) (hs4 t) (ms6 t) (hs6 t) (ms7 t) (hs7 t) sc1 (Memref.isWhole_whole _) (iblk m c 1 t) (iblk m c 2 t) (iblk m c 3 t) (iblk m c 4 t) (iblk m c 5 t) (iblk m c 6 t) (iblk m c 7 t) s.prev hW h a b) rfl (cover_attn m c t s) h a b

/-- The scratch then holds the chunk prepared. -/
theorem chunk_after (hp : ∀ j, IsReal (prevKey t s j)) : chunkOf (scrOut m c t s) = prep W (tok (iblk m c 1 t)) (prevKey t s) := by
  unfold chunkOf heldChunk
  have e1 := v2_after m c t s hW hp
  have e2 := wkcd_after m c t s hW hp
  have e3 := rkdec_after m c t s hW
  have e4 := wkdw_after m c t s hW
  have e5 := attn_after m c t s hW
  have e6 := gate_after m c t s hW
  have e7 := sdec_after m c t s hW
  generalize prep W (tok (iblk m c 1 t)) (prevKey t s) = K at *
  obtain ⟨k1, k2, k3, k4, k5, k6, k7⟩ := K
  simp only [Chunk.mk.injEq]
  exact ⟨funext fun a => funext (e1 a), funext fun a => funext (e2 a), funext fun a => funext (e3 a), funext fun a => funext (e4 a),
    funext fun h => funext fun a => funext (e5 h a), funext fun a => funext (e6 a), funext e7⟩

/-- The result block of the chunk that the scratch held. -/
theorem blk_after (a : Fin 64) (j : Fin 1024) :
    blkOut m c t s (ix3 0 a j) = oout (chunkOf s) (heldState s.st) W (tok (iblk m c 0 t)) a j := by
  refine (glue_whole _ _ (run.sl.v668 c (ms0 t) (hs0 t) (ms5 t) (hs5 t) sc0 (Memref.isWhole_whole _) sc2 (Memref.isWhole_whole _) sc3 (Memref.isWhole_whole _) sc4 (Memref.isWhole_whole _) sc6 (Memref.isWhole_whole _) sc7 (Memref.isWhole_whole _) (iblk m c 0 t) (iblk m c 5 t) s.st s.v2 s.wkcd s.rkdec s.attn s.gate) (L := (pcs m c t s).out) rfl (cover_out m c t s) (ix3 0 a j)).trans ?_
  exact out_apply c (ms0 t) (hs0 t) (ms5 t) (hs5 t) sc0 (Memref.isWhole_whole _) sc2 (Memref.isWhole_whole _) sc3 (Memref.isWhole_whole _) sc4 (Memref.isWhole_whole _) sc6 (Memref.isWhole_whole _) sc7 (Memref.isWhole_whole _) (iblk m c 0 t) (iblk m c 5 t) s.st s.v2 s.wkcd s.rkdec s.wkdw s.attn s.gate s.sdec W hW.wo a j
end

/-- The state that the body writes. -/
theorem st_after (h : Fin 8) (d e : Fin 128) :
    glue sc0.view (pcs m c t s).st (ix3 h d e) = snext (chunkOf s) (heldState s.st) h d e :=
  glue_state sc0.view ![(run.sl.v637 c sc0 (Memref.isWhole_whole _) sc2 (Memref.isWhole_whole _) sc3 (Memref.isWhole_whole _) sc4 (Memref.isWhole_whole _) sc5 (Memref.isWhole_whole _) sc8 (Memref.isWhole_whole _) s.st s.v2 s.wkcd s.rkdec s.wkdw s.sdec), (run.sl.v640 c sc0 (Memref.isWhole_whole _) sc2 (Memref.isWhole_whole _) sc3 (Memref.isWhole_whole _) sc4 (Memref.isWhole_whole _) sc5 (Memref.isWhole_whole _) sc8 (Memref.isWhole_whole _) s.st s.v2 s.wkcd s.rkdec s.wkdw s.sdec), (run.sl.v643 c sc0 (Memref.isWhole_whole _) sc2 (Memref.isWhole_whole _) sc3 (Memref.isWhole_whole _) sc4 (Memref.isWhole_whole _) sc5 (Memref.isWhole_whole _) sc8 (Memref.isWhole_whole _) s.st s.v2 s.wkcd s.rkdec s.wkdw s.sdec), (run.sl.v646 c sc0 (Memref.isWhole_whole _) sc2 (Memref.isWhole_whole _) sc3 (Memref.isWhole_whole _) sc4 (Memref.isWhole_whole _) sc5 (Memref.isWhole_whole _) sc8 (Memref.isWhole_whole _) s.st s.v2 s.wkcd s.rkdec s.wkdw s.sdec), (run.sl.v649 c sc0 (Memref.isWhole_whole _) sc2 (Memref.isWhole_whole _) sc3 (Memref.isWhole_whole _) sc4 (Memref.isWhole_whole _) sc5 (Memref.isWhole_whole _) sc8 (Memref.isWhole_whole _) s.st s.v2 s.wkcd s.rkdec s.wkdw s.sdec), (run.sl.v652 c sc0 (Memref.isWhole_whole _) sc2 (Memref.isWhole_whole _) sc3 (Memref.isWhole_whole _) sc4 (Memref.isWhole_whole _) sc5 (Memref.isWhole_whole _) sc8 (Memref.isWhole_whole _) s.st s.v2 s.wkcd s.rkdec s.wkdw s.sdec), (run.sl.v655 c sc0 (Memref.isWhole_whole _) sc2 (Memref.isWhole_whole _) sc3 (Memref.isWhole_whole _) sc4 (Memref.isWhole_whole _) sc5 (Memref.isWhole_whole _) sc8 (Memref.isWhole_whole _) s.st s.v2 s.wkcd s.rkdec s.wkdw s.sdec), (run.sl.v658 c sc0 (Memref.isWhole_whole _) sc2 (Memref.isWhole_whole _) sc3 (Memref.isWhole_whole _) sc4 (Memref.isWhole_whole _) sc5 (Memref.isWhole_whole _) sc8 (Memref.isWhole_whole _) s.st s.v2 s.wkcd s.rkdec s.wkdw s.sdec)] _
    (fun h d e => snext_apply c sc0 (Memref.isWhole_whole _) sc2 (Memref.isWhole_whole _) sc3 (Memref.isWhole_whole _) sc4 (Memref.isWhole_whole _) sc5 (Memref.isWhole_whole _) sc8 (Memref.isWhole_whole _) s.st s.v2 s.wkcd s.rkdec s.wkdw s.attn s.gate s.sdec h d e) rfl (cover_st m c t s) h d e

/-- The zeroed state. -/
theorem zeroed_after (h : Fin 8) (d e : Fin 128) : glue (F := Ideal) sc0.view [zeroed] (ix3 h d e) = 0 := by
  refine (glue_whole sc0.view _ (k0_pay2 (F := Ideal)) (L := [zeroed]) rfl zeroed_cover (ix3 h d e)).trans ?_
  pointwise [k0_pay2]

end Cert.KernelIdeal.Value

end
-- ==== Proof.Args.lean ====
/- The layer as one function of the argument arrays. -/
module

public import proofs.«01_k».proof.Proof.Spec
public import Idealize.ShloMosaic.Lib.Pointwise

@[expose] public section

noncomputable section

namespace Cert.Gdn

open Idealize.ShloMosaic

/-- The weights, of the argument arrays. -/
def wts (ww wo : (⟨2, ![1024, 1024]⟩ : Shape).Idx → EReal) (wg wb wa : (⟨2, ![8, 1024]⟩ : Shape).Idx → EReal)
    (dtb al : (⟨1, ![8]⟩ : Shape).Idx → EReal) : Wts where
  ww j x := ww (ix2 j x)
  wo j x := wo (ix2 j x)
  wg h x := wg (ix2 h x)
  wb h x := wb (ix2 h x)
  wa h x := wa (ix2 h x)
  dtb h := dtb (ix1 h)
  al h := al (ix1 h)

/-- Batch row `b`'s tokens, by chunk, place in the chunk and column. -/
def toks (x : (⟨3, ![4, 8192, 1024]⟩ : Shape).Idx → EReal) (b : Fin 4) (n : Fin 128) (a : Fin 64) (j : Fin 1024) : EReal :=
  x (ix3 b ⟨64 * n.val + a.val, by omega⟩ j)

/-- The layer's result, by batch row, chunk, place and column. -/
def layer (W : Wts) (x : (⟨3, ![4, 8192, 1024]⟩ : Shape).Idx → EReal) (y : (⟨3, ![4, 8192, 1024]⟩ : Shape).Idx) : EReal :=
  result W (toks x (y 0)) ⟨(y 1).val / 64, by have h := (y 1).isLt; change (y 1).val < 8192 at h; omega⟩
    ⟨(y 1).val % 64, by omega⟩ (y 2)

/-- The result at a place of a chunk. -/
theorem layer_apply (W : Wts) (x : (⟨3, ![4, 8192, 1024]⟩ : Shape).Idx → EReal) (b : Fin 4) (n : Fin 128) (a : Fin 64)
    (j : Fin 1024) (hh) : layer W x (ix3 b ⟨64 * n.val + a.val, hh⟩ j) = result W (toks x b) n a j := by
  unfold layer
  have e1 : (⟨((ix3 b (⟨64 * n.val + a.val, hh⟩ : Fin 8192) j) 1).val / 64, by
      show (64 * n.val + a.val) / 64 < 128; omega⟩ : Fin 128) = n := Fin.ext (by show (64 * n.val + a.val) / 64 = n.val; omega)
  have e2 : (⟨((ix3 b (⟨64 * n.val + a.val, hh⟩ : Fin 8192) j) 1).val % 64, by omega⟩ : Fin 64) = a :=
    Fin.ext (by show (64 * n.val + a.val) % 64 = a.val; omega)
  rw [e1, e2]
  rfl

end Cert.Gdn

end
-- ==== Proof.KernelValue.lean ====
/- The kernel's result array: at every point the scratch holds the chunk prepared one point before and the state before it,
   so each block written is Spec.lean's result on its chunk. -/
module

public import proofs.«01_k».proof.Proof.KernelGlue
public import proofs.«01_k».proof.Proof.Args
public import Idealize.ShloMosaic.Lib.StableHlo.ReadAt

@[expose] public section

set_option maxRecDepth 16384

noncomputable section

namespace Cert.KernelIdeal.Value

open Idealize.ShloMosaic Idealize.ShloMosaic.TcCoe Idealize.SL.Sem Cert.Gdn
open Idealize.ShloMosaic.Pipeline (Dat RDat)
open Cert.KernelIdeal Cert.KernelIdeal.Body Cert.KernelIdeal.Gen

variable (m : (ℓ : Loc nD τ sig) → Buf (Elt Ideal) ℓ) (ρ : Dev nD → PrngReg) (c : Dev nD)

/-- The weights as launched. -/
def weights : Wts := wts (m (c.tc.loc main_arg1)) (m (c.tc.loc main_arg3)) (m (c.tc.loc main_arg2)) (m (c.tc.loc main_arg4))
  (m (c.tc.loc main_arg5)) (m (c.tc.loc main_arg6)) (m (c.tc.loc main_arg7))
/-- Batch row `b`'s tokens as launched. -/
def tokens (b : Fin 4) : Fin 128 → Fin 64 → Fin 1024 → EReal := toks (m (c.tc.loc main_arg0)) b

/-- The write matrix, transposed by the host. -/
theorem v0_read (x j : Fin 1024) : V m c main_v0 (ix2 x j) = (weights m c).ww j x := by
  after_reads_simp
  pointwise [weights, wts]
/-- The output matrix, transposed by the host. -/
theorem v1_read (x j : Fin 1024) : V m c main_v1 (ix2 x j) = (weights m c).wo j x := by
  after_reads_simp
  pointwise [weights, wts]
/-- The beta rows in the joined matrix. -/
theorem v4_read_b (x : Fin 1024) (h : Fin 8) (hh) : V m c main_v4 (ix2 x ⟨h.val, hh⟩) = (weights m c).wb h x := by
  after_reads_simp
  pointwise [weights, wts]
/-- The gate rows in the joined matrix. -/
theorem v4_read_g (x : Fin 1024) (h : Fin 8) (hh) : V m c main_v4 (ix2 x ⟨8 + h.val, hh⟩) = (weights m c).wg h x := by
  after_reads_simp
  pointwise [weights, wts]
/-- The alpha rows, transposed by the host. -/
theorem v5_read (x : Fin 1024) (h : Fin 8) : V m c main_v5 (ix2 x h) = (weights m c).wa h x := by
  after_reads_simp
  pointwise [weights, wts]
/-- The step bias as a row. -/
theorem v6_read (h : Fin 8) : V m c main_v6 (ix2 0 h) = (weights m c).dtb h := by
  after_reads_simp
  pointwise [weights, wts]
/-- The decay rates as a row. -/
theorem v9_read (h : Fin 8) : V m c main_v9 (ix2 0 h) = -Ideal.exp ((weights m c).al h) := by
  after_reads_simp
  pointwise [weights, wts]

/-! The windows' block indices. -/

/-- Which block of the tokens a step sees as the chunk just done. -/
theorem idx0 : ∀ t : Fin cfg0.N, win0_0.index t (0 : Fin 3) = t.val / 129 ∧ win0_0.index t (1 : Fin 3) = t.val % 129 - 1
    ∧ win0_0.index t (2 : Fin 3) = 0 := (by decide +kernel : ∀ t : Fin grid0.N, _)
/-- Which block of the tokens a step prepares. -/
theorem idx1 : ∀ t : Fin cfg0.N, win0_1.index t (0 : Fin 3) = t.val / 129 ∧ win0_1.index t (1 : Fin 3) = min (t.val % 129) 127
    ∧ win0_1.index t (2 : Fin 3) = 0 := (by decide +kernel : ∀ t : Fin grid0.N, _)
/-- Which block of the result a step writes. -/
theorem idx8 : ∀ t : Fin cfg0.N, win0_8.index t (0 : Fin 3) = t.val / 129 ∧ win0_8.index t (1 : Fin 3) = t.val % 129 - 1
    ∧ win0_8.index t (2 : Fin 3) = 0 := (by decide +kernel : ∀ t : Fin grid0.N, _)
/-- A row's first step writes no block back. -/
theorem flush8 : ∀ t : Fin cfg0.N, win0_8.flush t = true → t.val % 129 ≠ 0 := (by decide +kernel : ∀ t : Fin grid0.N, _)
/-- The second grid coordinate of a step. -/
theorem coords1 (t : Fin cfg0.N) : (grid0.coords t 1).val = t.val % 129 := by
  have e1 : (grid0.coords t 1).val = t.val / 1 % 129 := Pipeline.Grid.coords_val t 1 (by decide) rfl
  rw [e1, Nat.div_one]

/-- Every step takes the same block of the write matrix. -/
theorem idx2 : ∀ t : Fin cfg0.N, win0_2.index t (0 : Fin 2) = 0 ∧ win0_2.index t (1 : Fin 2) = 0 :=
  (by decide +kernel : ∀ t : Fin grid0.N, _)
/-- That block is all of the write matrix. -/
theorem iblk2 (t : Fin cfg0.N) : iblk m c 2 t = V m c main_v0 := by
  funext j
  show V m c main_v0 (((cfg0.win 2).blk t).view.emb j) = V m c main_v0 j
  obtain ⟨e0, e1⟩ := idx2 t
  blk_ext [e0, e1]
/-- Every step takes the same block of the joined matrix. -/
theorem idx3 : ∀ t : Fin cfg0.N, win0_3.index t (0 : Fin 2) = 0 ∧ win0_3.index t (1 : Fin 2) = 0 :=
  (by decide +kernel : ∀ t : Fin grid0.N, _)
/-- That block is all of the joined matrix. -/
theorem iblk3 (t : Fin cfg0.N) : iblk m c 3 t = V m c main_v4 := by
  funext j
  show V m c main_v4 (((cfg0.win 3).blk t).view.emb j) = V m c main_v4 j
  obtain ⟨e0, e1⟩ := idx3 t
  blk_ext [e0, e1]
/-- Every step takes the same block of the alpha matrix. -/
theorem idx4 : ∀ t : Fin cfg0.N, win0_4.index t (0 : Fin 2) = 0 ∧ win0_4.index t (1 : Fin 2) = 0 :=
  (by decide +kernel : ∀ t : Fin grid0.N, _)
/-- That block is all of the alpha matrix. -/
theorem iblk4 (t : Fin cfg0.N) : iblk m c 4 t = V m c main_v5 := by
  funext j
  show V m c main_v5 (((cfg0.win 4).blk t).view.emb j) = V m c main_v5 j
  obtain ⟨e0, e1⟩ := idx4 t
  blk_ext [e0, e1]
/-- Every step takes the same block of the output matrix. -/
theorem idx5 : ∀ t : Fin cfg0.N, win0_5.index t (0 : Fin 2) = 0 ∧ win0_5.index t (1 : Fin 2) = 0 :=
  (by decide +kernel : ∀ t : Fin grid0.N, _)
/-- That block is all of the output matrix. -/
theorem iblk5 (t : Fin cfg0.N) : iblk m c 5 t = V m c main_v1 := by
  funext j
  show V m c main_v1 (((cfg0.win 5).blk t).view.emb j) = V m c main_v1 j
  obtain ⟨e0, e1⟩ := idx5 t
  blk_ext [e0, e1]
/-- Every step takes the same block of the step bias. -/
theorem idx6 : ∀ t : Fin cfg0.N, win0_6.index t (0 : Fin 2) = 0 ∧ win0_6.index t (1 : Fin 2) = 0 :=
  (by decide +kernel : ∀ t : Fin grid0.N, _)
/-- That block is all of the step bias. -/
theorem iblk6 (t : Fin cfg0.N) : iblk m c 6 t = V m c main_v6 := by
  funext j
  show V m c main_v6 (((cfg0.win 6).blk t).view.emb j) = V m c main_v6 j
  obtain ⟨e0, e1⟩ := idx6 t
  blk_ext [e0, e1]
/-- Every step takes the same block of the decay rates. -/
theorem idx7 : ∀ t : Fin cfg0.N, win0_7.index t (0 : Fin 2) = 0 ∧ win0_7.index t (1 : Fin 2) = 0 :=
  (by decide +kernel : ∀ t : Fin grid0.N, _)
/-- That block is all of the decay rates. -/
theorem iblk7 (t : Fin cfg0.N) : iblk m c 7 t = V m c main_v9 := by
  funext j
  show V m c main_v9 (((cfg0.win 7).blk t).view.emb j) = V m c main_v9 j
  obtain ⟨e0, e1⟩ := idx7 t
  blk_ext [e0, e1]

/-- The weight windows hold the weights at every point. -/
theorem holds (t : Fin cfg0.N) : Holds (weights m c) (iblk m c 2 t) (iblk m c 3 t) (iblk m c 4 t) (iblk m c 5 t) (iblk m c 6 t) (iblk m c 7 t) := by
  rw [iblk2, iblk3, iblk4, iblk5, iblk6, iblk7]
  exact ⟨v0_read m c, v4_read_b m c, v4_read_g m c, v5_read m c, v1_read m c, v6_read m c, v9_read m c⟩

/-- The batch row of the point numbered `n`. -/
def rowOf (n : ℕ) (h : n < 516) : Fin 4 := ⟨n / 129, by omega⟩
/-- The chunk finished at the point numbered `n`. -/
def doneAt (n : ℕ) : Fin 128 := ⟨n % 129 - 1, by omega⟩

/-- The first window's block is the chunk finished. -/
theorem tok0 (t : Fin cfg0.N) (ht : t.val < 516) : tok (iblk m c 0 t) = tokens m c (rowOf t.val ht) (doneAt t.val) := by
  funext a j
  show V m c main_arg0 (((cfg0.win 0).blk t).view.emb (ix3 0 a j)) = _
  rw [V_main_arg0]
  obtain ⟨e0, e1, e2⟩ := idx0 t
  unfold tokens toks rowOf doneAt
  blk_ext [e0, e1, e2]
/-- The second window's block is the next chunk. -/
theorem tok1 (t : Fin cfg0.N) (ht : t.val < 516) (hk : t.val % 129 < 128) :
    tok (iblk m c 1 t) = tokens m c (rowOf t.val ht) ⟨t.val % 129, hk⟩ := by
  funext a j
  show V m c main_arg0 (((cfg0.win 1).blk t).view.emb (ix3 0 a j)) = _
  rw [V_main_arg0]
  obtain ⟨e0, e1, e2⟩ := idx1 t
  have e3 : min (t.val % 129) 127 = t.val % 129 := by omega
  rw [e3] at e1
  unfold tokens toks rowOf
  blk_ext [e0, e1, e2]

/-- Before a point that is not a batch row's first, the scratch holds the chunk before, its last key and the state before it. -/
def Inv (c : Dev nD) (n : ℕ) (s : Scr Ideal) : Prop :=
  ∀ h : n < 516, n % 129 ≠ 0 → (∀ j, s.prev (ix2 0 j) = rk (tokens m c (rowOf n h) (doneAt n)) 63 j)
    ∧ chunkOf s = chunk (weights m c) (tokens m c (rowOf n h)) (doneAt n)
    ∧ heldState s.st = state (weights m c) (tokens m c (rowOf n h)) (doneAt n).val

/-- What is known of the block written at a point that is not a batch row's first. -/
def Wrote (c : Dev nD) (t : Fin cfg0.N) (X : Vec Ideal S1x64x1024 .f32) : Prop :=
  ∀ h : t.val < 516, t.val % 129 ≠ 0 → ∀ a j, X (ix3 0 a j) = result (weights m c) (tokens m c (rowOf t.val h)) (doneAt t.val) a j

/-- The key before the chunk prepared is the one the scratch holds, or zero. -/
theorem prevKey_eq (t : Fin cfg0.N) (s : Scr Ideal) (hs : Inv m c t.val s) (ht : t.val < 516) (hk : t.val % 129 < 128) :
    prevKey t s = before (tokens m c (rowOf t.val ht)) ⟨t.val % 129, hk⟩ := by
  funext j
  unfold prevKey pkey before
  rw [coords1]
  by_cases h0 : t.val % 129 = 0
  · rw [if_pos h0, dif_neg (by show ¬ 0 < t.val % 129; omega)]
  · rw [if_neg h0, dif_pos (by show 0 < t.val % 129; omega)]
    exact (hs ht h0).1 j

/-- The key before a chunk is a number. -/
theorem before_real (x : Fin 128 → Fin 64 → Fin 1024 → EReal) (n : Fin 128) (j : Fin 1024) : IsReal (before x n j) := by
  unfold before
  split
  · exact rk_real ..
  · exact IsReal.zero

/-- A point keeps the invariant and writes its block. -/
theorem step (t : Fin cfg0.N) (s : Scr Ideal) (hs : Inv m c t.val s) :
    Wrote m c t (blkOut m c t s) ∧ Inv m c (t.val + 1) (scrOut m c t s) := by
  have hW := holds m c t
  refine ⟨fun ht h0 a j => ?_, fun hn h1 => ?_⟩
  · rw [blk_after m c t s hW, (hs ht h0).2.1, (hs ht h0).2.2, tok0 m c t ht]
    rfl
  have ht : t.val < 516 := by omega
  have hk : t.val % 129 < 128 := by omega
  have er : rowOf (t.val + 1) hn = rowOf t.val ht := Fin.ext (by show (t.val + 1) / 129 = t.val / 129; omega)
  have ed : doneAt (t.val + 1) = ⟨t.val % 129, hk⟩ := Fin.ext (by show (t.val + 1) % 129 - 1 = t.val % 129; omega)
  have hp := prevKey_eq m c t s hs ht hk
  rw [er, ed]
  refine ⟨fun j => ?_, ?_, ?_⟩
  · rw [prev_after m c t s hW, tok1 m c t ht hk]
  · rw [chunk_after m c t s hW (fun j => by rw [hp]; exact before_real ..), hp, tok1 m c t ht hk]
    rfl
  · funext h d e
    show (if t.val % 129 = 0 then glue sc0.view [zeroed] else glue sc0.view (pcs m c t s).st) (ix3 h d e) = _
    by_cases h0 : t.val % 129 = 0
    · rw [if_pos h0, zeroed_after]
      have e0 : (⟨t.val % 129, hk⟩ : Fin 128).val = 0 := h0
      rw [e0]; rfl
    · rw [if_neg h0, st_after, (hs ht h0).2.1, (hs ht h0).2.2]
      obtain ⟨k, hk'⟩ : ∃ k, t.val % 129 = k + 1 := ⟨t.val % 129 - 1, by omega⟩
      have e0 : (⟨t.val % 129, hk⟩ : Fin 128).val = k + 1 := hk'
      have e1 : doneAt t.val = ⟨k, by omega⟩ := Fin.ext (by show t.val % 129 - 1 = k; omega)
      rw [e0, e1, state, dif_pos (by omega : k < 128)]

/-- The result array as one function of the arguments. -/
def out : S4x8192x1024.Idx → EReal := layer (weights m c) (m (c.tc.loc main_arg0))

/-- What a written block places where. -/
theorem emb8 (t : Fin cfg0.N) (ht : t.val < 516) (a : Fin 64) (j : Fin 1024) :
    ((cfg0.win 8).blk t).view.emb (ix3 (n0 := 1) 0 a j)
      = ix3 (rowOf t.val ht) (⟨64 * (doneAt t.val).val + a.val, by omega⟩ : Fin 8192) j := by
  obtain ⟨e0, e1, e2⟩ := idx8 t
  unfold rowOf doneAt
  blk_ext [e0, e1, e2]

/-- A written block is the array's function at its places. -/
theorem wrote_at (t : Fin cfg0.N) (ht : t.val < 516) (h0 : t.val % 129 ≠ 0) (X : Vec Ideal S1x64x1024 .f32) (hw : Wrote m c t X)
    (y : S1x64x1024.Idx) : X y = out m c (((cfg0.win 8).blk t).view.emb y) := by
  have hy : y = ix3 (n0 := 1) (n1 := 64) (n2 := 1024) 0 (y 1) (y 2) :=
    (eq_ix3 (n0 := 1) (n1 := 64) (n2 := 1024) y).trans
      (congrArg (fun z => ix3 (n0 := 1) (n1 := 64) (n2 := 1024) z (y 1) (y 2)) (Subsingleton.elim (α := Fin 1) _ _))
  obtain ⟨a, j, e⟩ : ∃ (a : Fin 64) (j : Fin 1024), y = ix3 (n0 := 1) 0 a j := ⟨y 1, y 2, hy⟩
  subst e
  refine (hw ht h0 a j).trans (Eq.trans ?_ (congrArg (out m c) (emb8 t ht a j)).symm)
  exact (layer_apply _ _ _ _ _ _ _).symm

/-- The kernel's run: the result array is the layer of the arguments, which stay. -/
theorem run_value : θ_run defs (onTc (τ := τ) (main (F := Ideal))) ⟨m, fun _ => 0, ρ⟩ (fun r => ∀ c : Dev nD,
      r.2.mem ((c.tc : Thread nD τ).loc main_v10) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ⟨?_, args_of m _ _ r h.1 c⟩)
    (run_main m ρ (Inv m) (Wrote m) (fun c t s => step m c t s) (fun c s h h0 => absurd rfl h0))
  obtain ⟨after, hL, hA⟩ := h.1.exists_exact c
  refine (hA 8).trans ?_
  refine Dat.arrAt_eq_of_covers _ 8 _ (by decide +kernel) fun t hf y => ?_
  have ht : t.val < 516 := Nat.lt_of_lt_of_eq t.isLt N_0
  have hw : Wrote m c t (after 8 t) := Dat.toRRel_leaves (dat m (Inv m) c) (h := rfl) (hL 8 t hf)
  exact wrote_at m c t ht (flush8 t hf) (after 8 t) hw y

end Cert.KernelIdeal.Value

end
-- ==== Proof.RefPre.lean ====
/- What the reference's buffers hold before its loop, by coordinates: Spec.lean's functions of the arguments. -/
module

public import proofs.«01_k».proof.Proof.RefFrame
public import proofs.«01_k».proof.Proof.Args
public import Idealize.ShloMosaic.Lib.StableHlo.ReadAt

@[expose] public section

set_option maxRecDepth 16384

noncomputable section

namespace Cert.ReferenceIdeal.Value

open Idealize.ShloMosaic Idealize.ShloMosaic.TcCoe Idealize.SL.Sem Idealize.ShloMosaic.StableHlo Cert.Gdn
open Cert.ReferenceIdeal Cert.ReferenceIdeal.Gen

/-- Stretches one after another: the first part, then the rest. -/
theorem afterL_append {F : FTy → Type} [FloatOps F] : ∀ (l k : List (List (HloOp τ sig (Elt F)))) (V : Valuation τ sig (Elt F)),
    afterL (l ++ k) V = afterL k (afterL l V)
  | [], _, _ => rfl
  | a :: l, k, V => afterL_append l k (after a V)

variable (m : (ℓ : Loc nD τ sig) → Buf (Elt Ideal) ℓ) (c : Dev nD)

/-- The buffers at the loop's entry. -/
abbrev E (r : Ref sig .tc) := entryContents preI m c (Proc.devRef .tc r)
/-- The buffers after the first `K` stretches. -/
def cut (K : ℕ) : Valuation τ sig (Elt Ideal) := afterL ((preL.take K).map Prod.fst) (launchContents m c)

/-- A buffer that no later stretch writes is at the entry as after the stretches before. -/
theorem E_cut (K : ℕ) (r : Ref sig .tc) (h : ∀ w ∈ preWs.drop K, r ∉ w) : E m c r = cut m c K (Proc.devRef .tc r) := by
  have e : entryContents preI m c = afterL ((preL.drop K).map Prod.fst) (cut m c K) := by
    unfold cut
    rw [← afterL_append, ← List.map_append, List.take_append_drop]
    rfl
  show entryContents preI m c _ = _
  rw [e]
  refine afterL_keep _ ?_ ?_ _
  · exact List.forall_iff_forall_mem.mpr fun p hp => List.forall_iff_forall_mem.mp preL_ok p (List.mem_of_mem_drop hp)
  · refine List.forall_iff_forall_mem.mpr fun p hp => h _ ?_
    have : preWs = (preL (F := Ideal)).map Prod.snd := rfl
    rw [this, ← List.map_drop]
    exact List.mem_map_of_mem hp

/-- The weights as launched. -/
def weights : Wts := wts (m (c.tc.loc main_arg1)) (m (c.tc.loc main_arg3)) (m (c.tc.loc main_arg2)) (m (c.tc.loc main_arg4))
  (m (c.tc.loc main_arg5)) (m (c.tc.loc main_arg6)) (m (c.tc.loc main_arg7))
/-- Batch row `b`'s tokens as launched. -/
def tokens (b : Fin 4) : Fin 128 → Fin 64 → Fin 1024 → EReal := toks (m (c.tc.loc main_arg0)) b

/-- The row of a chunk's token. -/
def tk (n : Fin 128) (a : Fin 64) : Fin 8192 := ⟨n.val * 64 + a.val, by omega⟩
/-- The same row, by its number. -/
theorem tk_mk (n : Fin 128) (a : Fin 64) (h) : (⟨n.val * 64 + a.val, h⟩ : Fin 8192) = tk n a := rfl
/-- The same column, by its number. -/
theorem col_mk (n : Fin 8) (a : Fin 128) (h) : (⟨n.val * 128 + a.val, h⟩ : Fin 1024) = col n a := Fin.ext (by simp only [col]; omega)

/-- The tokens after any of the stretches. -/
theorem arg0_at (b : Fin 4) (n : Fin 128) (a : Fin 64) (j : Fin 1024) :
    launchContents m c (Proc.devRef .tc main_arg0) (ix3 b (tk n a) j) = tokens m c b n a j := by
  show m (c.tc.loc main_arg0) _ = m (c.tc.loc main_arg0) _
  exact congrArg (fun t => m (c.tc.loc main_arg0) (ix3 b t j)) (Fin.ext (by simp only [tk]; omega))

/-- A token's row against a vector. -/
theorem row_dot (b : Fin 4) (n : Fin 128) (a : Fin 64) (f : Fin 1024 → EReal) :
    ∑ x, @HMul.hMul EReal EReal EReal _ (cut m c 0 (Proc.devRef .tc main_arg0) (ix3 b (tk n a) x)) (f x) = ∑ x, tokens m c b n a x * f x :=
  Finset.sum_congr rfl fun x _ => congrArg (fun z : EReal => z * f x) (arg0_at m c b n a x)

/-- The write values. -/
theorem v2_at (b : Fin 4) (n : Fin 128) (a : Fin 64) (h : Fin 8) (d : Fin 128) :
    E m c main_v2 (ix4 b (tk n a) h d) = val (weights m c) (tokens m c b n) a (col h d) := by
  rw [E_cut m c 1 main_v2 (by decide +kernel)]
  show after hostOps0 (cut m c 0) (Proc.devRef .tc main_v2) (ix4 b (tk n a) h d) = _
  after_reads_at
  simp only [col_mk]
  exact row_dot m c b n a ((weights m c).ww (col h d))

/-- The output gate. -/
theorem v11_at (b : Fin 4) (n : Fin 128) (a : Fin 64) (h : Fin 8) :
    E m c main_v11 (ix4 b (tk n a) h 0) = gate (weights m c) (tokens m c b n) a h := by
  rw [E_cut m c 1 main_v11 (by decide +kernel)]
  show after hostOps0 (cut m c 0) (Proc.devRef .tc main_v11) (ix4 b (tk n a) h 0) = _
  after_reads_at
  unfold gate sgm
  rw [zero_sub]
  exact congrArg (fun z => Ideal.div 1 (1 + Ideal.exp (-z))) (row_dot m c b n a ((weights m c).wg h))

/-- The write strength. -/
theorem v19_at (b : Fin 4) (n : Fin 128) (a : Fin 64) (h : Fin 8) :
    E m c main_v19 (ix3 b (tk n a) h) = beta (weights m c) (tokens m c b n) a h := by
  rw [E_cut m c 1 main_v19 (by decide +kernel)]
  show after hostOps0 (cut m c 0) (Proc.devRef .tc main_v19) (ix3 b (tk n a) h) = _
  after_reads_at
  unfold beta sgm
  rw [zero_sub]
  exact congrArg (fun z => Ideal.div 1 (1 + Ideal.exp (-z))) (row_dot m c b n a ((weights m c).wb h))

/-- The decay rate. -/
theorem v21_at (h : Fin 8) :
    E m c main_v21 (ix1 h) = -Ideal.exp ((weights m c).al h) := by
  rw [E_cut m c 1 main_v21 (by decide +kernel)]
  show after hostOps0 (cut m c 0) (Proc.devRef .tc main_v21) (ix1 h) = _
  after_reads_at
  rfl

/-- The step. -/
theorem v26_at (b : Fin 4) (n : Fin 128) (a : Fin 64) (h : Fin 8) :
    E m c main_v26 (ix3 b (tk n a) h) = ∑ x, tokens m c b n a x * (weights m c).wa h x + (weights m c).dtb h := by
  rw [E_cut m c 1 main_v26 (by decide +kernel)]
  show after hostOps0 (cut m c 0) (Proc.devRef .tc main_v26) (ix3 b (tk n a) h) = _
  after_reads_at
  exact congrArg (fun z => z + (weights m c).dtb h) (row_dot m c b n a ((weights m c).wa h))

/-- The softplus. -/
theorem v27_at (b : Fin 4) (t : Fin 8192) (h : Fin 8) :
    E m c main_v27 (ix3 b t h) = spl (E m c main_v26 (ix3 b t h)) := by
  rw [E_cut m c 2 main_v27 (by decide +kernel)]
  show after hostOps0_1 (cut m c 1) (Proc.devRef .tc main_v27) (ix3 b t h) = _
  after_reads_at
  rw [← E_cut m c 1 main_v26 (by decide +kernel)]
  rw [if_neg (not_not_intro rfl)]
  unfold spl
  rw [zero_sub]

/-- The logarithm of the decay. -/
theorem v30_at (b : Fin 4) (n : Fin 128) (a : Fin 64) (h : Fin 8) :
    E m c main_v30 (ix3 b (tk n a) h) = decay (weights m c) (tokens m c b n) a h := by
  rw [E_cut m c 3 main_v30 (by decide +kernel)]
  show after hostOps0_2 (cut m c 2) (Proc.devRef .tc main_v30) (ix3 b (tk n a) h) = _
  after_reads_at
  rw [← E_cut m c 2 main_v21 (by decide +kernel), ← E_cut m c 2 main_v27 (by decide +kernel)]
  rw [v21_at, v27_at, v26_at]
  rfl

/-- The tokens by head. -/
theorem v31_at (b : Fin 4) (n : Fin 128) (a : Fin 64) (h : Fin 8) (d : Fin 128) :
    E m c main_v31 (ix4 b (tk n a) h d) = tokens m c b n a (col h d) := by
  rw [E_cut m c 3 main_v31 (by decide +kernel)]
  show after hostOps0_2 (cut m c 2) (Proc.devRef .tc main_v31) (ix4 b (tk n a) h d) = _
  after_reads_at
  rw [← E_cut m c 2 main_arg0 (by decide +kernel)]
  rw [col_mk, E_cut m c 0 main_arg0 (by decide +kernel)]
  exact arg0_at m c b n a _

/-- The norm. -/
theorem v32_at (b : Fin 4) (n : Fin 128) (a : Fin 64) (h : Fin 8) :
    E m c main_v32 (ix4 b (tk n a) h 0) = Ideal.sqrt (∑ x : Fin 128, tokens m c b n a (col h x) * tokens m c b n a (col h x)) := by
  rw [E_cut m c 4 main_v32 (by decide +kernel)]
  show after hostOps0_3 (cut m c 3) (Proc.devRef .tc main_v32) (ix4 b (tk n a) h 0) = _
  after_reads_at
  rw [← E_cut m c 3 main_v31 (by decide +kernel)]
  exact congrArg Ideal.sqrt (Finset.sum_congr rfl fun x _ => by rw [v31_at])

/-- The read key, by row. -/
theorem v36_row (b : Fin 4) (t : Fin 8192) (h : Fin 8) (d : Fin 128) :
    E m c main_v36 (ix4 b t h d) = Ideal.div (E m c main_v31 (ix4 b t h d)) (max (E m c main_v32 (ix4 b t h 0)) (Ideal.ofBits .f32 730643660#32)) := by
  rw [E_cut m c 5 main_v36 (by decide +kernel)]
  show after hostOps0_4 (cut m c 4) (Proc.devRef .tc main_v36) (ix4 b t h d) = _
  after_reads_at
  rw [← E_cut m c 4 main_v31 (by decide +kernel), ← E_cut m c 4 main_v32 (by decide +kernel)]

/-- The read key. -/
theorem v36_at (b : Fin 4) (n : Fin 128) (a : Fin 64) (h : Fin 8) (d : Fin 128) : E m c main_v36 (ix4 b (tk n a) h d) = rk (tokens m c b n) a (col h d) := by
  rw [v36_row, v31_at, v32_at]
  unfold rk nrm
  rw [hd_col]

/-- The read key but for the last. -/
theorem v37_at (b : Fin 4) (t : Fin 8191) (h : Fin 8) (d : Fin 128) :
    E m c main_v37 (ix4 b t h d) = E m c main_v36 (ix4 b ⟨t.val, by omega⟩ h d) := by
  rw [E_cut m c 5 main_v37 (by decide +kernel)]
  show after hostOps0_4 (cut m c 4) (Proc.devRef .tc main_v37) (ix4 b t h d) = _
  after_reads_at
  rw [← E_cut m c 4 main_v31 (by decide +kernel), ← E_cut m c 4 main_v32 (by decide +kernel)]
  rw [v36_row]

/-- The padding, as an integer. -/
theorem c_at  :
    E m c main_c ix0 = 0#32 := by
  rw [E_cut m c 5 main_c (by decide +kernel)]
  show after hostOps0_4 (cut m c 4) (Proc.devRef .tc main_c) ix0 = _
  after_reads_at

/-- The write key, by row. -/
theorem v38_row (b : Fin 4) (t : Fin 8192) (h : Fin 8) (d : Fin 128) :
    E m c main_v38 (ix4 b t h d) = if hh : 0 < t.val then E m c main_v36 (ix4 b ⟨t.val - 1, by omega⟩ h d) else (0 : EReal) := by
  rw [E_cut m c 6 main_v38 (by decide +kernel)]
  show after hostOps0_5 (cut m c 5) (Proc.devRef .tc main_v38) (ix4 b t h d) = _
  after_reads_at
  rw [← E_cut m c 5 main_v37 (by decide +kernel), ← E_cut m c 5 main_c (by decide +kernel)]
  by_cases ht : 0 < t.val
  · rw [dif_pos ⟨ht, by omega⟩, dif_pos ht, v37_at]
  · rw [dif_neg (fun h => ht h.1), dif_neg ht, (show Shape.Idx.first h_S_ = ix0 from funext fun k => k.elim0), c_at]
    show (((0#32 : BitVec 32).toInt : ℝ) : EReal) = 0
    simp

/-- The write key. -/
theorem v38_at (b : Fin 4) (n : Fin 128) (a : Fin 64) (h : Fin 8) (d : Fin 128) : E m c main_v38 (ix4 b (tk n a) h d) = wk (tokens m c b n) (before (tokens m c b) n) a (col h d) := by
  rw [v38_row]
  unfold wk
  by_cases ha : 0 < a.val
  · rw [dif_pos ha, dif_pos (by simp only [tk]; omega)]
    refine Eq.trans ?_ (v36_at m c b n ⟨a.val - 1, by omega⟩ h d)
    exact congrArg (fun t => E m c main_v36 (ix4 b t h d)) (Fin.ext (by simp only [tk]; omega))
  rw [dif_neg ha]
  unfold before
  by_cases hn : 0 < n.val
  · rw [dif_pos hn, dif_pos (by simp only [tk]; omega)]
    refine Eq.trans ?_ (v36_at m c b ⟨n.val - 1, by omega⟩ 63 h d)
    refine congrArg (fun t => E m c main_v36 (ix4 b t h d)) (Fin.ext ?_)
    show n.val * 64 + a.val - 1 = (n.val - 1) * 64 + 63
    omega
  · rw [dif_neg hn, dif_neg (by simp only [tk]; omega)]

/-- The read key by chunk. -/
theorem v48_at (b : Fin 4) (h : Fin 8) (n : Fin 128) (a : Fin 64) (d : Fin 128) :
    E m c main_v48 (ix5 b h n a d) = rk (tokens m c b n) a (col h d) := by
  rw [E_cut m c 7 main_v48 (by decide +kernel)]
  show after hostOps0_6 (cut m c 6) (Proc.devRef .tc main_v48) (ix5 b h n a d) = _
  after_reads_at
  rw [← E_cut m c 6 main_v36 (by decide +kernel)]
  rw [tk_mk, v36_at]

/-- The write key by chunk. -/
theorem v49_at (b : Fin 4) (h : Fin 8) (n : Fin 128) (a : Fin 64) (d : Fin 128) :
    E m c main_v49 (ix5 b h n a d) = wk (tokens m c b n) (before (tokens m c b) n) a (col h d) := by
  rw [E_cut m c 7 main_v49 (by decide +kernel)]
  show after hostOps0_6 (cut m c 6) (Proc.devRef .tc main_v49) (ix5 b h n a d) = _
  after_reads_at
  rw [← E_cut m c 6 main_v38 (by decide +kernel)]
  rw [tk_mk, v38_at]

/-- The write values times their strength. -/
theorem v50_at (b : Fin 4) (h : Fin 8) (n : Fin 128) (a : Fin 64) (d : Fin 128) :
    E m c main_v50 (ix5 b h n a d) = val (weights m c) (tokens m c b n) a (col h d) * beta (weights m c) (tokens m c b n) a h := by
  rw [E_cut m c 7 main_v50 (by decide +kernel)]
  show after hostOps0_6 (cut m c 6) (Proc.devRef .tc main_v50) (ix5 b h n a d) = _
  after_reads_at
  rw [← E_cut m c 6 main_v2 (by decide +kernel), ← E_cut m c 6 main_v19 (by decide +kernel)]
  rw [tk_mk, v2_at, v19_at]

/-- The write key times its strength. -/
theorem v51_at (b : Fin 4) (h : Fin 8) (n : Fin 128) (a : Fin 64) (d : Fin 128) :
    E m c main_v51 (ix5 b h n a d) = wk (tokens m c b n) (before (tokens m c b) n) a (col h d) * beta (weights m c) (tokens m c b n) a h := by
  rw [E_cut m c 7 main_v51 (by decide +kernel)]
  show after hostOps0_6 (cut m c 6) (Proc.devRef .tc main_v51) (ix5 b h n a d) = _
  after_reads_at
  rw [← E_cut m c 6 main_v38 (by decide +kernel), ← E_cut m c 6 main_v19 (by decide +kernel)]
  rw [tk_mk, v38_at, v19_at]

/-- The decay by chunk. -/
theorem v53_at (b : Fin 4) (h : Fin 8) (n : Fin 128) (a : Fin 64) :
    E m c main_v53 (ix4 b h n a) = decay (weights m c) (tokens m c b n) a h := by
  rw [E_cut m c 7 main_v53 (by decide +kernel)]
  show after hostOps0_6 (cut m c 6) (Proc.devRef .tc main_v53) (ix4 b h n a) = _
  after_reads_at
  rw [← E_cut m c 6 main_v30 (by decide +kernel)]
  rw [tk_mk, v30_at]

end Cert.ReferenceIdeal.Value

end
-- ==== Proof.RefMat.lean ====
/- What the reference's buffers hold before its loop: the running sums, the masks and the triangular matrix. -/
module

public import proofs.«01_k».proof.Proof.RefPre

@[expose] public section

set_option maxRecDepth 16384

noncomputable section

namespace Cert.ReferenceIdeal.Value

open Idealize.ShloMosaic Idealize.ShloMosaic.TcCoe Idealize.SL.Sem Idealize.ShloMosaic.StableHlo Cert.Gdn
open Cert.ReferenceIdeal Cert.ReferenceIdeal.Gen

variable (m : (ℓ : Loc nD τ sig) → Buf (Elt Ideal) ℓ) (c : Dev nD)

/-- A left fold of sums is the sum. -/
theorem foldl_sum {ι : Type} (g : ι → EReal) : ∀ (l : List ι) (v : EReal), l.foldl (fun r n => r + g n) v = v + (l.map g).sum
  | [], v => (add_zero v).symm
  | x :: l, v => by rw [List.foldl_cons, foldl_sum g l, List.map_cons, List.sum_cons, add_assoc]

/-- The places of a window along the last of four axes. -/
def lastAxis : Fin 64 ≃ (⟨4, ![1, 1, 1, 64]⟩ : Shape).Idx where
  toFun w := ix4 (n0 := 1) (n1 := 1) (n2 := 1) (n3 := 64) 0 0 0 w
  invFun y := y 3
  left_inv _ := rfl
  right_inv y := by
    funext k
    match k with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

/-- A product's entry. -/
theorem mulf_at {s : Shape} (x y : FVec Ideal s .f32) (i : s.Idx) : mulf x y i = x i * y i := rfl

/-- One place of a window: what it reads. -/
theorem cum_term (x : S4x8x128x64.Idx → EReal) (b : Fin 4) (h : Fin 8) (n : Fin 128) (a : Fin 64) (y : (⟨4, ![1, 1, 1, 64]⟩ : Shape).Idx)
    (inst : Decidable (∀ q : Fin 4, (![0, 0, 0, 63] : Fin 4 → ℕ) q ≤ ((ix4 b h n a : S4x8x128x64.Idx) q).val * (![1, 1, 1, 1] : Fin 4 → ℕ) q + (y q).val
        ∧ ((ix4 b h n a : S4x8x128x64.Idx) q).val * (![1, 1, 1, 1] : Fin 4 → ℕ) q + (y q).val - (![0, 0, 0, 63] : Fin 4 → ℕ) q < S4x8x128x64.size q)) :
    @dite EReal (∀ q : Fin 4, (![0, 0, 0, 63] : Fin 4 → ℕ) q ≤ ((ix4 b h n a : S4x8x128x64.Idx) q).val * (![1, 1, 1, 1] : Fin 4 → ℕ) q + (y q).val
        ∧ ((ix4 b h n a : S4x8x128x64.Idx) q).val * (![1, 1, 1, 1] : Fin 4 → ℕ) q + (y q).val - (![0, 0, 0, 63] : Fin 4 → ℕ) q < S4x8x128x64.size q) inst
      (fun hin => x (fun q => ⟨((ix4 b h n a : S4x8x128x64.Idx) q).val * (![1, 1, 1, 1] : Fin 4 → ℕ) q + (y q).val - (![0, 0, 0, 63] : Fin 4 → ℕ) q, (hin q).2⟩)) (fun _ => 0)
    = if hh : 63 ≤ a.val + (y 3).val then x (ix4 b h n ⟨a.val + (y 3).val - 63, by have h3 := (y 3).isLt; change (y 3).val < 64 at h3; omega⟩) else 0 := by
  have y0 : (y 0).val = 0 := by have h0 := (y 0).isLt; change (y 0).val < 1 at h0; omega
  have y1 : (y 1).val = 0 := by have h0 := (y 1).isLt; change (y 1).val < 1 at h0; omega
  have y2 : (y 2).val = 0 := by have h0 := (y 2).isLt; change (y 2).val < 1 at h0; omega
  have y3 : (y 3).val < 64 := (y 3).isLt
  by_cases hh : 63 ≤ a.val + (y 3).val
  · rw [dif_pos hh]
    refine (dif_pos fun q => ?_).trans (congrArg x (funext fun q => Fin.ext ?_))
    · match q with
      | ⟨0, _⟩ => show 0 ≤ b.val * 1 + (y 0).val ∧ b.val * 1 + (y 0).val - 0 < 4; omega
      | ⟨1, _⟩ => show 0 ≤ h.val * 1 + (y 1).val ∧ h.val * 1 + (y 1).val - 0 < 8; omega
      | ⟨2, _⟩ => show 0 ≤ n.val * 1 + (y 2).val ∧ n.val * 1 + (y 2).val - 0 < 128; omega
      | ⟨3, _⟩ => show 63 ≤ a.val * 1 + (y 3).val ∧ a.val * 1 + (y 3).val - 63 < 64; omega
    · match q with
      | ⟨0, _⟩ => show b.val * 1 + (y 0).val - 0 = b.val; omega
      | ⟨1, _⟩ => show h.val * 1 + (y 1).val - 0 = h.val; omega
      | ⟨2, _⟩ => show n.val * 1 + (y 2).val - 0 = n.val; omega
      | ⟨3, _⟩ => show a.val * 1 + (y 3).val - 63 = a.val + (y 3).val - 63; omega
  · rw [dif_neg hh]
    exact dif_neg fun hin => hh (by have h3 := (hin 3).1; change 63 ≤ a.val * 1 + (y 3).val at h3; omega)

/-- A window of the whole last axis, padded low by one less, sums what is at or before a place. -/
theorem cumsum_at (x : S4x8x128x64.Idx → EReal) (hw : S4x8x128x64.ReduceWindows ![1, 1, 1, 64] ![1, 1, 1, 1] ![0, 0, 0, 63] ![0, 0, 0, 0] S4x8x128x64)
    (b : Fin 4) (h : Fin 8) (n : Fin 128) (a : Fin 64) :
    Ideal.hostReduceWindowAdd ![1, 1, 1, 64] ![1, 1, 1, 1] ![0, 0, 0, 63] ![0, 0, 0, 0] hw x 0 (ix4 b h n a)
      = ∑ y : Fin 64, if y ≤ a then x (ix4 b h n y) else 0 := by
  unfold Ideal.hostReduceWindowAdd Host.reduceWindow
  refine (foldl_sum _ _ _).trans ?_
  rw [zero_add, ← Fin.sum_univ_def]
  refine (Fintype.sum_equiv ((⟨4, ![1, 1, 1, 64]⟩ : Shape).rowMajor.symm.trans lastAxis.symm) _
    (fun w : Fin 64 => if hh : 63 ≤ a.val + w.val then x (ix4 b h n ⟨a.val + w.val - 63, by omega⟩) else 0) fun k => ?_).trans
    (Fintype.sum_equiv (Equiv.addRight (a + 1)) _ _ fun w => ?_)
  · exact @cum_term x b h n a ((⟨4, ![1, 1, 1, 64]⟩ : Shape).rowMajor.symm k) _
  · have e : (w + (a + 1)).val = (a.val + w.val + 1) % 64 := by
      rw [Fin.val_add, Fin.val_add]
      show (w.val + (a.val + 1) % 64) % 64 = _
      omega
    show _ = if w + (a + 1) ≤ a then x (ix4 b h n (w + (a + 1))) else 0
    have le : w + (a + 1) ≤ a ↔ 63 ≤ a.val + w.val := by
      rw [Fin.le_def, e]
      omega
    by_cases hh : 63 ≤ a.val + w.val
    · rw [dif_pos hh, if_pos (le.mpr hh)]
      exact congrArg (fun y => x (ix4 b h n y)) (Fin.ext (by rw [e]; show a.val + w.val - 63 = _; omega))
    · rw [dif_neg hh, if_neg (fun h => hh (le.mp h))]

/-- The decay's running sum. -/
theorem v54_at (b : Fin 4) (h : Fin 8) (n : Fin 128) (a : Fin 64) :
    E m c main_v54 (ix4 b h n a) = dec (weights m c) (tokens m c b n) a h := by
  rw [E_cut m c 8 main_v54 (by decide +kernel)]
  show after hostOps0_7 (cut m c 7) (Proc.devRef .tc main_v54) (ix4 b h n a) = _
  after_reads_at
  rw [← E_cut m c 7 main_v53 (by decide +kernel)]
  have e0 : (broadcastInDim S_ ![] bcast_S_S_ (constant (F := Ideal) S_ FTy.f32 0#32) (Shape.Idx.first h_S_) : EReal) = 0 := by pointwise
  show Ideal.hostReduceWindowAdd ![1, 1, 1, 64] ![1, 1, 1, 1] ![0, 0, 0, 63] ![0, 0, 0, 0] (t := S4x8x128x64) (by decide) (E m c main_v53)
    (broadcastInDim S_ ![] bcast_S_S_ (constant (F := Ideal) S_ FTy.f32 0#32) (Shape.Idx.first h_S_)) (ix4 b h n a) = _
  rw [e0, cumsum_at]
  exact Finset.sum_congr rfl fun y _ => by rw [v53_at]

/-- Its exponential. -/
theorem v56_at (b : Fin 4) (h : Fin 8) (n : Fin 128) (a : Fin 64) :
    E m c main_v56 (ix5 b h n a 0) = Ideal.exp (dec (weights m c) (tokens m c b n) a h) := by
  rw [E_cut m c 9 main_v56 (by decide +kernel)]
  show after hostOps0_8 (cut m c 8) (Proc.devRef .tc main_v56) (ix5 b h n a 0) = _
  after_reads_at
  rw [← E_cut m c 8 main_v54 (by decide +kernel)]
  rw [v54_at]

/-- Ones. -/
theorem v57_at (i j : Fin 64) :
    E m c main_v57 (ix2 i j) = 1#1 := by
  rw [E_cut m c 9 main_v57 (by decide +kernel)]
  show after hostOps0_8 (cut m c 8) (Proc.devRef .tc main_v57) (ix2 i j) = _
  after_reads_at

/-- The lower triangle. -/
theorem v58_at (i j : Fin 64) :
    E m c main_v58 (ix2 i j) = if j ≤ i then 1#1 else 0#1 := by
  rw [E_cut m c 10 main_v58 (by decide +kernel)]
  show after hostOps0_9 (cut m c 9) (Proc.devRef .tc main_v58) (ix2 i j) = _
  after_reads_at
  rw [← E_cut m c 9 main_v57 (by decide +kernel)]
  rw [v57_at]
  revert i j
  exact (by decide +kernel : ∀ i j : Fin 64, Scalar.select (IntOp.cmpi .sge (IntOp.addi (BitVec.ofNat 32 i.val) 0#32) (BitVec.ofNat 32 j.val)) (1#1) 0#1 = if j ≤ i then 1#1 else 0#1)

/-- Ones. -/
theorem v59_at (i j : Fin 64) :
    E m c main_v59 (ix2 i j) = 1#1 := by
  rw [E_cut m c 11 main_v59 (by decide +kernel)]
  show after hostOps0_10 (cut m c 10) (Proc.devRef .tc main_v59) (ix2 i j) = _
  after_reads_at

/-- The strict lower triangle. -/
theorem v60_at (i j : Fin 64) :
    E m c main_v60 (ix2 i j) = if j < i then 1#1 else 0#1 := by
  rw [E_cut m c 12 main_v60 (by decide +kernel)]
  show after hostOps0_11 (cut m c 11) (Proc.devRef .tc main_v60) (ix2 i j) = _
  after_reads_at
  rw [← E_cut m c 11 main_v59 (by decide +kernel)]
  rw [v59_at]
  revert i j
  exact (by decide +kernel : ∀ i j : Fin 64, Scalar.select (IntOp.cmpi .sge (IntOp.addi (BitVec.ofNat 32 i.val) 4294967295#32) (BitVec.ofNat 32 j.val)) (1#1) 0#1 = if j < i then 1#1 else 0#1)

/-- The difference of running sums. -/
theorem v65_at (b : Fin 4) (h : Fin 8) (n : Fin 128) (a : Fin 64) (e : Fin 64) :
    E m c main_v65 (ix5 b h n a e) = dec (weights m c) (tokens m c b n) a h - dec (weights m c) (tokens m c b n) e h := by
  rw [E_cut m c 13 main_v65 (by decide +kernel)]
  show after hostOps0_12 (cut m c 12) (Proc.devRef .tc main_v65) (ix5 b h n a e) = _
  after_reads_at
  rw [← E_cut m c 12 main_v54 (by decide +kernel)]
  rw [v54_at, v54_at]

/-- The mask's value. -/
theorem cst6_at  :
    E m c main_cst_6 ix0 = (⊥ : EReal) := by
  rw [E_cut m c 13 main_cst_6 (by decide +kernel)]
  show after hostOps0_12 (cut m c 12) (Proc.devRef .tc main_cst_6) ix0 = _
  after_reads_at
  simp [Ideal.ofBits, Ideal.ieee]

/-- The masked difference. -/
theorem v66_at (b : Fin 4) (h : Fin 8) (n : Fin 128) (a : Fin 64) (e : Fin 64) :
    E m c main_v66 (ix5 b h n a e) = if e ≤ a then dec (weights m c) (tokens m c b n) a h - dec (weights m c) (tokens m c b n) e h else ⊥ := by
  rw [E_cut m c 14 main_v66 (by decide +kernel)]
  show after hostOps0_13 (cut m c 13) (Proc.devRef .tc main_v66) (ix5 b h n a e) = _
  after_reads_at
  rw [← E_cut m c 13 main_v58 (by decide +kernel), ← E_cut m c 13 main_v65 (by decide +kernel), ← E_cut m c 13 main_cst_6 (by decide +kernel)]
  show Scalar.select (E m c main_v58 (ix2 a e)) (E m c main_v65 (ix5 b h n a e)) (E m c main_cst_6 ix0) = _
  rw [v58_at, v65_at, cst6_at]
  split <;> rfl

/-- The decay between two tokens. -/
theorem v67_at (b : Fin 4) (h : Fin 8) (n : Fin 128) (a : Fin 64) (e : Fin 64) :
    E m c main_v67 (ix5 b h n a e) = lmask (weights m c) (tokens m c b n) h a e := by
  rw [E_cut m c 15 main_v67 (by decide +kernel)]
  show after hostOps0_14 (cut m c 14) (Proc.devRef .tc main_v67) (ix5 b h n a e) = _
  after_reads_at
  rw [← E_cut m c 14 main_v66 (by decide +kernel)]
  rw [v66_at]
  unfold lmask
  split
  · rfl
  · exact Ideal.exp_bot

/-- The products of write keys. -/
theorem v68_at (b : Fin 4) (h : Fin 8) (n : Fin 128) (a : Fin 64) (e : Fin 64) :
    E m c main_v68 (ix5 b h n a e) = ∑ d : Fin 128, wk (tokens m c b n) (before (tokens m c b) n) a (col h d) * beta (weights m c) (tokens m c b n) a h * wk (tokens m c b n) (before (tokens m c b) n) e (col h d) := by
  rw [E_cut m c 15 main_v68 (by decide +kernel)]
  show after hostOps0_14 (cut m c 14) (Proc.devRef .tc main_v68) (ix5 b h n a e) = _
  after_reads_at
  rw [← E_cut m c 14 main_v51 (by decide +kernel), ← E_cut m c 14 main_v49 (by decide +kernel)]
  exact Finset.sum_congr rfl fun d _ => by rw [v51_at, v49_at]

/-- The products, decayed: the whole array. -/
theorem v69_eq : E m c main_v69 = (mulf (E m c main_v68 : FVec Ideal S4x8x128x64x64 .f32) (E m c main_v67) : FVec Ideal S4x8x128x64x64 .f32) := by
  rw [E_cut m c 15 main_v69 (by decide +kernel), E_cut m c 15 main_v68 (by decide +kernel), E_cut m c 15 main_v67 (by decide +kernel)]
  show after hostOps0_14 (cut m c 14) (Proc.devRef .tc main_v69) = (mulf (after hostOps0_14 (cut m c 14) (Proc.devRef .tc main_v68) : FVec Ideal S4x8x128x64x64 .f32)
    (after hostOps0_14 (cut m c 14) (Proc.devRef .tc main_v67)) : FVec Ideal S4x8x128x64x64 .f32)
  after_reads_simp

/-- The products, decayed: one entry. -/
theorem v69_at (b : Fin 4) (h : Fin 8) (n : Fin 128) (a : Fin 64) (e : Fin 64) : E m c main_v69 (ix5 b h n a e) =
    (∑ d : Fin 128, wk (tokens m c b n) (before (tokens m c b) n) a (col h d) * beta (weights m c) (tokens m c b n) a h * wk (tokens m c b n) (before (tokens m c b) n) e (col h d))
      * lmask (weights m c) (tokens m c b n) h a e := by
  rw [v69_eq]
  refine (mulf_at _ _ _).trans ?_
  rw [v68_at, v67_at]

/-- The zero. -/
theorem cst7_at  :
    E m c main_cst_7 ix0 = (0 : EReal) := by
  rw [E_cut m c 15 main_cst_7 (by decide +kernel)]
  show after hostOps0_14 (cut m c 14) (Proc.devRef .tc main_cst_7) ix0 = _
  after_reads_at

/-- The strictly lower triangular matrix. -/
theorem v70_at (b : Fin 4) (h : Fin 8) (n : Fin 128) (a : Fin 64) (e : Fin 64) :
    E m c main_v70 (ix5 b h n a e) = mmat (weights m c) (tokens m c b n) (before (tokens m c b) n) h a e := by
  rw [E_cut m c 16 main_v70 (by decide +kernel)]
  show after hostOps0_15 (cut m c 15) (Proc.devRef .tc main_v70) (ix5 b h n a e) = _
  after_reads_at
  rw [← E_cut m c 15 main_v60 (by decide +kernel), ← E_cut m c 15 main_v69 (by decide +kernel), ← E_cut m c 15 main_cst_7 (by decide +kernel)]
  show Scalar.select (E m c main_v60 (ix2 a e)) (E m c main_v69 (ix5 b h n a e)) (E m c main_cst_7 ix0) = _
  rw [v60_at, v69_at, cst7_at]
  unfold mmat
  split <;> rfl

end Cert.ReferenceIdeal.Value

end
-- ==== Proof.RefSolve.lean ====
/- What the reference's loop starts from: the solved matrix and the arrays the loop carries. -/
module

public import proofs.«01_k».proof.Proof.RefMat

@[expose] public section

set_option maxRecDepth 16384

noncomputable section

namespace Cert.ReferenceIdeal.Value

open Idealize.ShloMosaic Idealize.ShloMosaic.TcCoe Idealize.SL.Sem Idealize.ShloMosaic.StableHlo Cert.Gdn
open Cert.ReferenceIdeal Cert.ReferenceIdeal.Gen

variable (m : (ℓ : Loc nD τ sig) → Buf (Elt Ideal) ℓ) (c : Dev nD)

/-- One sweep, on the whole arrays. -/
def sw (M I A : FVec Ideal S4x8x128x64x64 .f32) : FVec Ideal S4x8x128x64x64 .f32 :=
  subf I (Host.dotGeneral dot_S4x8x128x64x64_S4x8x128x64x64_S4x8x128x64x64_4_3_3_4_012_012 none M A)

/-- One sweep's entry. -/
theorem sw_at (M I A : FVec Ideal S4x8x128x64x64 .f32) (b : Fin 4) (h : Fin 8) (n : Fin 128) (a e : Fin 64) :
    sw M I A (ix5 b h n a e) = I (ix5 b h n a e) - ∑ k : Fin 64, M (ix5 b h n a k) * A (ix5 b h n k e) := by
  unfold sw
  pointwise

/-- The sweeps, chunk by chunk. -/
theorem sw_iter (M I : FVec Ideal S4x8x128x64x64 .f32) (b : Fin 4) (h : Fin 8) (n : Fin 128) (N : Fin 64 → Fin 64 → EReal)
    (hM : ∀ a e, M (ix5 b h n a e) = N a e) (hI : ∀ a e, I (ix5 b h n a e) = eye a e) :
    ∀ (k : ℕ) (a e : Fin 64), (sw M I)^[k] I (ix5 b h n a e) = (sweep N)^[k] eye a e
  | 0, a, e => hI a e
  | k + 1, a, e => by
    rw [Function.iterate_succ_apply', Function.iterate_succ_apply', sw_at, hI]
    unfold sweep
    exact congrArg (eye a e - ·) (Finset.sum_congr rfl fun x _ => by rw [hM, sw_iter M I b h n N hM hI k x e]; rfl)

/-- The identity matrix. -/
theorem v77_at (b : Fin 4) (h : Fin 8) (n : Fin 128) (a e : Fin 64) : E m c main_v77 (ix5 b h n a e) = eye a e := by
  rw [E_cut m c 17 main_v77 (by decide +kernel)]
  show after hostOps0_16 (cut m c 16) (Proc.devRef .tc main_v77) (ix5 b h n a e) = _
  after_reads_at
  have hb : IntOp.cmpi .eq (IntOp.addi (BitVec.ofNat 32 a.val) 0#32) (BitVec.ofNat 32 e.val) = if a = e then 1#1 else 0#1 := by
    revert a e
    decide +kernel
  rw [hb]
  unfold eye
  split <;> simp [FloatOps.uitofp]

/-- The 63 sweeps, as the program writes them. -/
theorem v203_eq : E m c main_v203 = (sw (E m c main_v70) (E m c main_v77))^[63] (E m c main_v77) := by
  rw [E_cut m c 17 main_v203 (by decide +kernel), E_cut m c 17 main_v77 (by decide +kernel), E_cut m c 17 main_v70 (by decide +kernel)]
  show after hostOps0_16 (cut m c 16) (Proc.devRef .tc main_v203) = (sw (after hostOps0_16 (cut m c 16) (Proc.devRef .tc main_v70)) (after hostOps0_16 (cut m c 16) (Proc.devRef .tc main_v77)))^[63]
    (after hostOps0_16 (cut m c 16) (Proc.devRef .tc main_v77))
  after_reads_simp
  rfl

/-- The solved matrix. -/
theorem v203_at (b : Fin 4) (h : Fin 8) (n : Fin 128) (a e : Fin 64) :
    E m c main_v203 (ix5 b h n a e) = amat (weights m c) (tokens m c b n) (before (tokens m c b) n) h a e := by
  rw [v203_eq]
  exact sw_iter _ _ b h n _ (fun a e => v70_at m c b h n a e) (fun a e => v77_at m c b h n a e) 63 a e

/-- The chunks brought to the front: one entry. -/
theorem front5_at (x : FVec Ideal S4x8x128x64x128 .f32) (n : Fin 128) (b : Fin 4) (h : Fin 8) (a : Fin 64) (d : Fin 128) :
    id (transpose S128x4x8x64x128 [2, 0, 1, 3, 4] x transposes_S4x8x128x64x128_S128x4x8x64x128_2_0_1_3_4) (ix5 n b h a d) = x (ix5 b h n a d) := by
  show transpose S128x4x8x64x128 [2, 0, 1, 3, 4] x transposes_S4x8x128x64x128_S128x4x8x64x128_2_0_1_3_4 (ix5 n b h a d) = _
  pointwise

/-- The same of a square array. -/
theorem front5s_at (x : FVec Ideal S4x8x128x64x64 .f32) (n : Fin 128) (b : Fin 4) (h : Fin 8) (a e : Fin 64) :
    id (transpose S128x4x8x64x64 [2, 0, 1, 3, 4] x transposes_S4x8x128x64x64_S128x4x8x64x64_2_0_1_3_4) (ix5 n b h a e) = x (ix5 b h n a e) := by
  show transpose S128x4x8x64x64 [2, 0, 1, 3, 4] x transposes_S4x8x128x64x64_S128x4x8x64x64_2_0_1_3_4 (ix5 n b h a e) = _
  pointwise

/-- The same of a row of scalars. -/
theorem front4_at (x : FVec Ideal S4x8x128x64 .f32) (n : Fin 128) (b : Fin 4) (h : Fin 8) (a : Fin 64) :
    id (transpose S128x4x8x64 [2, 0, 1, 3] x transposes_S4x8x128x64_S128x4x8x64_2_0_1_3) (ix4 n b h a) = x (ix4 b h n a) := by
  show transpose S128x4x8x64 [2, 0, 1, 3] x transposes_S4x8x128x64_S128x4x8x64_2_0_1_3 (ix4 n b h a) = _
  pointwise

/-- A product with the solved matrix. -/
def solved (A : FVec Ideal S4x8x128x64x64 .f32) (B : FVec Ideal S4x8x128x64x128 .f32) : FVec Ideal S4x8x128x64x128 .f32 :=
  Host.dotGeneral dot_S4x8x128x64x64_S4x8x128x64x128_S4x8x128x64x128_4_3_3_4_012_012 none A B

/-- Its entry. -/
theorem solved_at (A : FVec Ideal S4x8x128x64x64 .f32) (B : FVec Ideal S4x8x128x64x128 .f32) (b : Fin 4) (h : Fin 8) (n : Fin 128) (a : Fin 64) (d : Fin 128) :
    solved A B (ix5 b h n a d) = ∑ k : Fin 64, A (ix5 b h n a k) * B (ix5 b h n k d) := by
  unfold solved
  pointwise

/-- The solved values. -/
theorem v204_eq : E m c main_v204 = solved (E m c main_v203) (E m c main_v50) := by
  rw [E_cut m c 17 main_v204 (by decide +kernel), E_cut m c 17 main_v203 (by decide +kernel), E_cut m c 17 main_v50 (by decide +kernel)]
  show after hostOps0_16 (cut m c 16) (Proc.devRef .tc main_v204) = solved (after hostOps0_16 (cut m c 16) (Proc.devRef .tc main_v203)) (after hostOps0_16 (cut m c 16) (Proc.devRef .tc main_v50))
  after_reads_simp
  rfl

/-- The solved keys. -/
theorem v207_eq : E m c main_v207 = solved (E m c main_v203) (E m c main_v206) := by
  rw [E_cut m c 17 main_v207 (by decide +kernel), E_cut m c 17 main_v203 (by decide +kernel), E_cut m c 17 main_v206 (by decide +kernel)]
  show after hostOps0_16 (cut m c 16) (Proc.devRef .tc main_v207) = solved (after hostOps0_16 (cut m c 16) (Proc.devRef .tc main_v203)) (after hostOps0_16 (cut m c 16) (Proc.devRef .tc main_v206))
  after_reads_simp
  rfl

/-- The decayed write keys: the whole array. -/
theorem v206_eq : E m c main_v206 = (mulf ((E m c main_v51) : FVec Ideal S4x8x128x64x128 .f32) ((E m c main_v205) : FVec Ideal S4x8x128x64x128 .f32) : FVec Ideal S4x8x128x64x128 .f32) := by
  rw [E_cut m c 17 main_v206 (by decide +kernel), E_cut m c 17 main_v51 (by decide +kernel), E_cut m c 17 main_v205 (by decide +kernel)]
  show after hostOps0_16 (cut m c 16) (Proc.devRef .tc main_v206) = (mulf ((after hostOps0_16 (cut m c 16) (Proc.devRef .tc main_v51)) : FVec Ideal S4x8x128x64x128 .f32) ((after hostOps0_16 (cut m c 16) (Proc.devRef .tc main_v205)) : FVec Ideal S4x8x128x64x128 .f32) : FVec Ideal S4x8x128x64x128 .f32)
  after_reads_simp

/-- The decay factor, spread over the columns. -/
theorem v205_at (b : Fin 4) (h : Fin 8) (n : Fin 128) (a : Fin 64) (d : Fin 128) : E m c main_v205 (ix5 b h n a d) = Ideal.exp (dec (weights m c) (tokens m c b n) a h) := by
  rw [E_cut m c 17 main_v205 (by decide +kernel)]
  show after hostOps0_16 (cut m c 16) (Proc.devRef .tc main_v205) (ix5 b h n a d) = _
  after_reads_at
  rw [← E_cut m c 16 main_v56 (by decide +kernel), v56_at]

/-- The decayed write keys: one entry. -/
theorem v206_at (b : Fin 4) (h : Fin 8) (n : Fin 128) (a : Fin 64) (d : Fin 128) : E m c main_v206 (ix5 b h n a d) =
    wk (tokens m c b n) (before (tokens m c b) n) a (col h d) * beta (weights m c) (tokens m c b n) a h * Ideal.exp (dec (weights m c) (tokens m c b n) a h) := by
  rw [v206_eq]
  refine (mulf_at _ _ _).trans ?_
  rw [v51_at, v205_at]

/-- The solved values, by chunk. -/
theorem v204_at (b : Fin 4) (h : Fin 8) (n : Fin 128) (a : Fin 64) (d : Fin 128) :
    E m c main_v204 (ix5 b h n a d) = (chunk (weights m c) (tokens m c b) n).v2 a (col h d) := by
  refine (congrFun (v204_eq m c) _).trans ((solved_at _ _ b h n a d).trans ?_)
  unfold chunk prep
  dsimp only
  rw [hd_col]
  exact Finset.sum_congr rfl fun k _ => by rw [v203_at, v50_at]

/-- The solved keys, by chunk. -/
theorem v207_at (b : Fin 4) (h : Fin 8) (n : Fin 128) (a : Fin 64) (d : Fin 128) :
    E m c main_v207 (ix5 b h n a d) = (chunk (weights m c) (tokens m c b) n).wkcd a (col h d) := by
  refine (congrFun (v207_eq m c) _).trans ((solved_at _ _ b h n a d).trans ?_)
  unfold chunk prep
  dsimp only
  rw [hd_col]
  exact Finset.sum_congr rfl fun k _ => by rw [v203_at, v206_at]

/-- The read keys the loop carries: the whole array. -/
theorem carry0_eq : E m c main_v216_0 = (id (transpose S128x4x8x64x128 [2, 0, 1, 3, 4] ((E m c main_v48) : FVec Ideal S4x8x128x64x128 .f32) transposes_S4x8x128x64x128_S128x4x8x64x128_2_0_1_3_4)) := by
  rw [E_cut m c 17 main_v216_0 (by decide +kernel), E_cut m c 17 main_v48 (by decide +kernel)]
  show after hostOps0_16 (cut m c 16) (Proc.devRef .tc main_v216_0) = (id (transpose S128x4x8x64x128 [2, 0, 1, 3, 4] ((after hostOps0_16 (cut m c 16) (Proc.devRef .tc main_v48)) : FVec Ideal S4x8x128x64x128 .f32) transposes_S4x8x128x64x128_S128x4x8x64x128_2_0_1_3_4))
  after_reads_simp

/-- The read keys the loop carries. -/
theorem carry0_at (n : Fin 128) (b : Fin 4) (h : Fin 8) (a : Fin 64) (d : Fin 128) :
    E m c main_v216_0 (ix5 n b h a d) = E m c main_v48 (ix5 b h n a d) :=
  (congrFun (carry0_eq m c) _).trans (front5_at _ n b h a d)

/-- The write keys the loop carries: the whole array. -/
theorem carry1_eq : E m c main_v216_1 = (id (transpose S128x4x8x64x128 [2, 0, 1, 3, 4] ((E m c main_v49) : FVec Ideal S4x8x128x64x128 .f32) transposes_S4x8x128x64x128_S128x4x8x64x128_2_0_1_3_4)) := by
  rw [E_cut m c 17 main_v216_1 (by decide +kernel), E_cut m c 17 main_v49 (by decide +kernel)]
  show after hostOps0_16 (cut m c 16) (Proc.devRef .tc main_v216_1) = (id (transpose S128x4x8x64x128 [2, 0, 1, 3, 4] ((after hostOps0_16 (cut m c 16) (Proc.devRef .tc main_v49)) : FVec Ideal S4x8x128x64x128 .f32) transposes_S4x8x128x64x128_S128x4x8x64x128_2_0_1_3_4))
  after_reads_simp

/-- The write keys the loop carries. -/
theorem carry1_at (n : Fin 128) (b : Fin 4) (h : Fin 8) (a : Fin 64) (d : Fin 128) :
    E m c main_v216_1 (ix5 n b h a d) = E m c main_v49 (ix5 b h n a d) :=
  (congrFun (carry1_eq m c) _).trans (front5_at _ n b h a d)

/-- The solved values the loop carries: the whole array. -/
theorem carry2_eq : E m c main_v216_2 = (id (transpose S128x4x8x64x128 [2, 0, 1, 3, 4] ((E m c main_v204) : FVec Ideal S4x8x128x64x128 .f32) transposes_S4x8x128x64x128_S128x4x8x64x128_2_0_1_3_4)) := by
  rw [E_cut m c 17 main_v216_2 (by decide +kernel), E_cut m c 17 main_v204 (by decide +kernel)]
  show after hostOps0_16 (cut m c 16) (Proc.devRef .tc main_v216_2) = (id (transpose S128x4x8x64x128 [2, 0, 1, 3, 4] ((after hostOps0_16 (cut m c 16) (Proc.devRef .tc main_v204)) : FVec Ideal S4x8x128x64x128 .f32) transposes_S4x8x128x64x128_S128x4x8x64x128_2_0_1_3_4))
  after_reads_simp

/-- The solved values the loop carries. -/
theorem carry2_at (n : Fin 128) (b : Fin 4) (h : Fin 8) (a : Fin 64) (d : Fin 128) :
    E m c main_v216_2 (ix5 n b h a d) = E m c main_v204 (ix5 b h n a d) :=
  (congrFun (carry2_eq m c) _).trans (front5_at _ n b h a d)

/-- The solved keys the loop carries: the whole array. -/
theorem carry3_eq : E m c main_v216_3 = (id (transpose S128x4x8x64x128 [2, 0, 1, 3, 4] ((E m c main_v207) : FVec Ideal S4x8x128x64x128 .f32) transposes_S4x8x128x64x128_S128x4x8x64x128_2_0_1_3_4)) := by
  rw [E_cut m c 17 main_v216_3 (by decide +kernel), E_cut m c 17 main_v207 (by decide +kernel)]
  show after hostOps0_16 (cut m c 16) (Proc.devRef .tc main_v216_3) = (id (transpose S128x4x8x64x128 [2, 0, 1, 3, 4] ((after hostOps0_16 (cut m c 16) (Proc.devRef .tc main_v207)) : FVec Ideal S4x8x128x64x128 .f32) transposes_S4x8x128x64x128_S128x4x8x64x128_2_0_1_3_4))
  after_reads_simp

/-- The solved keys the loop carries. -/
theorem carry3_at (n : Fin 128) (b : Fin 4) (h : Fin 8) (a : Fin 64) (d : Fin 128) :
    E m c main_v216_3 (ix5 n b h a d) = E m c main_v207 (ix5 b h n a d) :=
  (congrFun (carry3_eq m c) _).trans (front5_at _ n b h a d)

/-- The running sums the loop carries: the whole array. -/
theorem carry4_eq : E m c main_v216_4 = (id (transpose S128x4x8x64 [2, 0, 1, 3] ((E m c main_v54) : FVec Ideal S4x8x128x64 .f32) transposes_S4x8x128x64_S128x4x8x64_2_0_1_3)) := by
  rw [E_cut m c 17 main_v216_4 (by decide +kernel), E_cut m c 17 main_v54 (by decide +kernel)]
  show after hostOps0_16 (cut m c 16) (Proc.devRef .tc main_v216_4) = (id (transpose S128x4x8x64 [2, 0, 1, 3] ((after hostOps0_16 (cut m c 16) (Proc.devRef .tc main_v54)) : FVec Ideal S4x8x128x64 .f32) transposes_S4x8x128x64_S128x4x8x64_2_0_1_3))
  after_reads_simp

/-- The decays the loop carries: the whole array. -/
theorem carry5_eq : E m c main_v216_5 = (id (transpose S128x4x8x64x64 [2, 0, 1, 3, 4] ((E m c main_v67) : FVec Ideal S4x8x128x64x64 .f32) transposes_S4x8x128x64x64_S128x4x8x64x64_2_0_1_3_4)) := by
  rw [E_cut m c 17 main_v216_5 (by decide +kernel), E_cut m c 17 main_v67 (by decide +kernel)]
  show after hostOps0_16 (cut m c 16) (Proc.devRef .tc main_v216_5) = (id (transpose S128x4x8x64x64 [2, 0, 1, 3, 4] ((after hostOps0_16 (cut m c 16) (Proc.devRef .tc main_v67)) : FVec Ideal S4x8x128x64x64 .f32) transposes_S4x8x128x64x64_S128x4x8x64x64_2_0_1_3_4))
  after_reads_simp

/-- The lower triangle the loop carries: the whole array. -/
theorem carry6_eq : E m c main_v216_6 = (E m c main_v58) := by
  rw [E_cut m c 17 main_v216_6 (by decide +kernel), E_cut m c 17 main_v58 (by decide +kernel)]
  show after hostOps0_16 (cut m c 16) (Proc.devRef .tc main_v216_6) = (after hostOps0_16 (cut m c 16) (Proc.devRef .tc main_v58))
  after_reads_simp
  rfl

/-- The running sums the loop carries. -/
theorem carry4_at (n : Fin 128) (b : Fin 4) (h : Fin 8) (a : Fin 64) :
    E m c main_v216_4 (ix4 n b h a) = E m c main_v54 (ix4 b h n a) :=
  (congrFun (carry4_eq m c) _).trans (front4_at _ n b h a)

/-- The decays the loop carries. -/
theorem carry5_at (n : Fin 128) (b : Fin 4) (h : Fin 8) (a e : Fin 64) :
    E m c main_v216_5 (ix5 n b h a e) = E m c main_v67 (ix5 b h n a e) :=
  (congrFun (carry5_eq m c) _).trans (front5s_at _ n b h a e)

/-- The lower triangle the loop carries. -/
theorem carry6_at (a e : Fin 64) : E m c main_v216_6 (ix2 a e) = if e ≤ a then 1#1 else 0#1 := by
  rw [carry6_eq, v58_at]

/-- The counter starts at zero. -/
theorem carry7_eq : E m c main_v216_7 = fun _ => 0#32 := by
  rw [E_cut m c 17 main_v216_7 (by decide +kernel)]
  show after hostOps0_16 (cut m c 16) (Proc.devRef .tc main_v216_7) = _
  after_reads_simp
  rfl

/-- The state starts at zero. -/
theorem carry8_at (b : Fin 4) (h : Fin 8) (d e : Fin 128) : E m c main_v216_8 (ix4 b h d e) = (0 : EReal) := by
  rw [E_cut m c 17 main_v216_8 (by decide +kernel)]
  show after hostOps0_16 (cut m c 16) (Proc.devRef .tc main_v216_8) (ix4 b h d e) = _
  after_reads_simp
  show broadcastInDim S4x8x128x128 ![] bcast_S_S4x8x128x128 (constant (F := Ideal) S_ FTy.f32 0#32) (ix4 b h d e) = _
  pointwise

end Cert.ReferenceIdeal.Value

end
-- ==== Proof.RefLoop.lean ====
/- The reference's loop: after `n` trips it carries the state before chunk `n` and holds what every earlier chunk read. -/
module

public import proofs.«01_k».proof.Proof.RefSolve
public import Idealize.ShloMosaic.Lib.DynamicIndex
public import Idealize.ShloMosaic.Lib.WordCmp

@[expose] public section

set_option maxRecDepth 16384

noncomputable section

namespace Cert.ReferenceIdeal.Value

open Idealize.ShloMosaic Idealize.ShloMosaic.TcCoe Idealize.SL.Sem Idealize.ShloMosaic.StableHlo Cert.Gdn
open Cert.ReferenceIdeal Cert.ReferenceIdeal.Gen

/-- The loop's counter holds the chunk's number. -/
def Ctr (V : Valuation τ sig (Elt Ideal)) (n : Fin 128) : Prop := V (Proc.devRef .tc main_v216_7) = fun _ => BitVec.ofNat 32 n.val

/-- Where a slice of a five-axis array begins. -/
theorem start5 {V : Valuation τ sig (Elt Ideal)} {n : Fin 128} (hc : Ctr V n) (q : Fin 5) :
    (((![V (Proc.devRef .tc main_v216_7), constantI S_ 32 0#32, constantI S_ 32 0#32, constantI S_ 32 0#32, constantI S_ 32 0#32] : Fin 5 → (⟨S_, .i32⟩ : BufTy).Contents (Elt Ideal))) q (Shape.Idx.first h_S_)).toInt
      = ((![n.val, 0, 0, 0, 0] : Fin 5 → ℕ) q : Int) := by
  match q with
  | ⟨0, _⟩ =>
    show BitVec.toInt (V (Proc.devRef .tc main_v216_7) (Shape.Idx.first h_S_)) = (n.val : Int)
    rw [show V (Proc.devRef .tc main_v216_7) = _ from hc]
    exact toInt_ofNat_of_lt (by omega)
  | ⟨1, _⟩ => rfl
  | ⟨2, _⟩ => rfl
  | ⟨3, _⟩ => rfl
  | ⟨4, _⟩ => rfl

/-- Where a slice of a four-axis array begins. -/
theorem start4 {V : Valuation τ sig (Elt Ideal)} {n : Fin 128} (hc : Ctr V n) (q : Fin 4) :
    (((![V (Proc.devRef .tc main_v216_7), constantI S_ 32 0#32, constantI S_ 32 0#32, constantI S_ 32 0#32] : Fin 4 → (⟨S_, .i32⟩ : BufTy).Contents (Elt Ideal))) q (Shape.Idx.first h_S_)).toInt
      = ((![n.val, 0, 0, 0] : Fin 4 → ℕ) q : Int) := by
  match q with
  | ⟨0, _⟩ =>
    show BitVec.toInt (V (Proc.devRef .tc main_v216_7) (Shape.Idx.first h_S_)) = (n.val : Int)
    rw [show V (Proc.devRef .tc main_v216_7) = _ from hc]
    exact toInt_ofNat_of_lt (by omega)
  | ⟨1, _⟩ => rfl
  | ⟨2, _⟩ => rfl
  | ⟨3, _⟩ => rfl

/-- One chunk of a carried array. -/
theorem slot_at (x : FVec Ideal S128x4x8x64x128 .f32) (st : Fin 5 → Int) (n : Fin 128) (hs : ∀ q, st q = ((![n.val, 0, 0, 0, 0] : Fin 5 → ℕ) q : Int))
    (b : Fin 4) (h : Fin 8) (a : Fin 64) (d : Fin 128) :
    shapeCast S4x8x64x128 (Host.dynamicSlice S1x4x8x64x128 x st sliceFits_S128x4x8x64x128_S1x4x8x64x128) shapeCasts_S1x4x8x64x128_S4x8x64x128 (ix4 b h a d) = x (ix5 n b h a d) := by
  have hf : S128x4x8x64x128.Slices ![n.val, 0, 0, 0, 0] S1x4x8x64x128 := ⟨rfl, fun q => by
    match q with
    | ⟨0, _⟩ => show n.val + 1 ≤ 128; omega
    | ⟨1, _⟩ => exact (by decide : 0 + 4 ≤ 4)
    | ⟨2, _⟩ => exact (by decide : 0 + 8 ≤ 8)
    | ⟨3, _⟩ => exact (by decide : 0 + 64 ≤ 64)
    | ⟨4, _⟩ => exact (by decide : 0 + 128 ≤ 128)⟩
  rw [Host.dynamicSlice_eq_extractStridedSlice _ x st ![n.val, 0, 0, 0, 0] _ hf hs]
  pointwise

/-- One chunk of the carried decays. -/
theorem slotS_at (x : FVec Ideal S128x4x8x64x64 .f32) (st : Fin 5 → Int) (n : Fin 128) (hs : ∀ q, st q = ((![n.val, 0, 0, 0, 0] : Fin 5 → ℕ) q : Int))
    (b : Fin 4) (h : Fin 8) (a e : Fin 64) :
    shapeCast S4x8x64x64 (Host.dynamicSlice S1x4x8x64x64 x st sliceFits_S128x4x8x64x64_S1x4x8x64x64) shapeCasts_S1x4x8x64x64_S4x8x64x64 (ix4 b h a e) = x (ix5 n b h a e) := by
  have hf : S128x4x8x64x64.Slices ![n.val, 0, 0, 0, 0] S1x4x8x64x64 := ⟨rfl, fun q => by
    match q with
    | ⟨0, _⟩ => show n.val + 1 ≤ 128; omega
    | ⟨1, _⟩ => exact (by decide : 0 + 4 ≤ 4)
    | ⟨2, _⟩ => exact (by decide : 0 + 8 ≤ 8)
    | ⟨3, _⟩ => exact (by decide : 0 + 64 ≤ 64)
    | ⟨4, _⟩ => exact (by decide : 0 + 64 ≤ 64)⟩
  rw [Host.dynamicSlice_eq_extractStridedSlice _ x st ![n.val, 0, 0, 0, 0] _ hf hs]
  pointwise

/-- One chunk of the carried running sums. -/
theorem slotD_at (x : FVec Ideal S128x4x8x64 .f32) (st : Fin 4 → Int) (n : Fin 128) (hs : ∀ q, st q = ((![n.val, 0, 0, 0] : Fin 4 → ℕ) q : Int))
    (b : Fin 4) (h : Fin 8) (a : Fin 64) :
    shapeCast S4x8x64 (Host.dynamicSlice S1x4x8x64 x st sliceFits_S128x4x8x64_S1x4x8x64) shapeCasts_S1x4x8x64_S4x8x64 (ix3 b h a) = x (ix4 n b h a) := by
  have hf : S128x4x8x64.Slices ![n.val, 0, 0, 0] S1x4x8x64 := ⟨rfl, fun q => by
    match q with
    | ⟨0, _⟩ => show n.val + 1 ≤ 128; omega
    | ⟨1, _⟩ => exact (by decide : 0 + 4 ≤ 4)
    | ⟨2, _⟩ => exact (by decide : 0 + 8 ≤ 8)
    | ⟨3, _⟩ => exact (by decide : 0 + 64 ≤ 64)⟩
  rw [Host.dynamicSlice_eq_extractStridedSlice _ x st ![n.val, 0, 0, 0] _ hf hs]
  pointwise

/-- Writing one chunk: that chunk is new, the others are as they were. -/
theorem put_at (x : FVec Ideal S128x4x8x64x128 .f32) (y : FVec Ideal S4x8x64x128 .f32) (st : Fin 5 → Int) (n : Fin 128) (hs : ∀ q, st q = ((![n.val, 0, 0, 0, 0] : Fin 5 → ℕ) q : Int))
    (k : Fin 128) (b : Fin 4) (h : Fin 8) (a : Fin 64) (d : Fin 128) :
    Host.dynamicUpdateSlice x (broadcastInDim S1x4x8x64x128 ![1, 2, 3, 4] bcast_S4x8x64x128_S1x4x8x64x128_1_2_3_4 y) st updateFits_S128x4x8x64x128_S1x4x8x64x128 (ix5 k b h a d)
      = if k = n then y (ix4 b h a d) else x (ix5 k b h a d) := by
  have hf : S128x4x8x64x128.Slices ![n.val, 0, 0, 0, 0] S1x4x8x64x128 := ⟨rfl, fun q => by
    match q with
    | ⟨0, _⟩ => show n.val + 1 ≤ 128; omega
    | ⟨1, _⟩ => exact (by decide : 0 + 4 ≤ 4)
    | ⟨2, _⟩ => exact (by decide : 0 + 8 ≤ 8)
    | ⟨3, _⟩ => exact (by decide : 0 + 64 ≤ 64)
    | ⟨4, _⟩ => exact (by decide : 0 + 128 ≤ 128)⟩
  rw [WordCmp.dynamicUpdateSlice_eq_update x _ st _ ![n.val, 0, 0, 0, 0] hf hs]
  rw [updateSlice_apply]
  by_cases hk : k = n
  · subst hk
    rw [if_pos rfl]
    refine (dif_pos fun q => ?_).trans ?_
    · match q with
      | ⟨0, _⟩ => show k.val ≤ k.val ∧ k.val < k.val + 1; omega
      | ⟨1, _⟩ => show 0 ≤ b.val ∧ b.val < 0 + 4; omega
      | ⟨2, _⟩ => show 0 ≤ h.val ∧ h.val < 0 + 8; omega
      | ⟨3, _⟩ => show 0 ≤ a.val ∧ a.val < 0 + 64; omega
      | ⟨4, _⟩ => show 0 ≤ d.val ∧ d.val < 0 + 128; omega
    · pointwise
  · rw [if_neg hk]
    exact dif_neg fun hin => hk (Fin.ext (by have h0 := hin 0; change n.val ≤ k.val ∧ k.val < n.val + 1 at h0; omega))

section trip
variable {V : Valuation τ sig (Elt Ideal)} {n : Fin 128} (hc : Ctr V n)
include hc

/-- The trip's read keys. -/
theorem r226_at (x : FVec Ideal S128x4x8x64x128 .f32) (hx : V (Proc.devRef .tc main_v216_0) = x) (b : Fin 4) (h : Fin 8) (a : Fin 64) (d : Fin 128) :
    res_main_while0b_v226 V (ix4 b h a d) = x (ix5 n b h a d) := by
  unfold res_main_while0b_v226
  rw [hx]
  exact slot_at x _ n (start5 hc) b h a d

/-- The trip's write keys. -/
theorem r227_at (x : FVec Ideal S128x4x8x64x128 .f32) (hx : V (Proc.devRef .tc main_v216_1) = x) (b : Fin 4) (h : Fin 8) (a : Fin 64) (d : Fin 128) :
    res_main_while0b_v227 V (ix4 b h a d) = x (ix5 n b h a d) := by
  unfold res_main_while0b_v227
  rw [hx]
  exact slot_at x _ n (start5 hc) b h a d

/-- The trip's running sums. -/
theorem r230_at (x : FVec Ideal S128x4x8x64 .f32) (hx : V (Proc.devRef .tc main_v216_4) = x) (b : Fin 4) (h : Fin 8) (a : Fin 64) :
    res_main_while0b_v230 V (ix3 b h a) = x (ix4 n b h a) := by
  unfold res_main_while0b_v230
  rw [hx]
  exact slotD_at x _ n (start4 hc) b h a

/-- The values the trip writes. -/
theorem r236_at (x y : FVec Ideal S128x4x8x64x128 .f32) (S : FVec Ideal S4x8x128x128 .f32) (hx : V (Proc.devRef .tc main_v216_2) = x) (hy : V (Proc.devRef .tc main_v216_3) = y)
    (hS : V (Proc.devRef .tc main_v216_8) = S) (b : Fin 4) (h : Fin 8) (a : Fin 64) (d : Fin 128) :
    res_main_while0b_v236 V (ix4 b h a d) = x (ix5 n b h a d) - ∑ k : Fin 128, y (ix5 n b h a k) * S (ix4 b h k d) := by
  unfold res_main_while0b_v236
  rw [hx, hy, hS]
  have e : ∀ (A B : FVec Ideal S4x8x64x128 .f32), subf A (Host.dotGeneral dot_S4x8x64x128_S4x8x128x128_S4x8x64x128_3_2_2_3_01_01 none B S) (ix4 b h a d)
      = A (ix4 b h a d) - ∑ k : Fin 128, B (ix4 b h a k) * S (ix4 b h k d) := fun A B => by pointwise
  refine (e _ _).trans ?_
  exact congrArg₂ (fun p q : EReal => p - q) (slot_at x _ n (start5 hc) b h a d)
    (Finset.sum_congr rfl fun k _ => congrArg (fun p : EReal => p * S (ix4 b h k d)) (slot_at y _ n (start5 hc) b h a k))

/-- What the trip's tokens read, put in its place. -/
theorem step9_at (R Q U : FVec Ideal S4x8x64x128 .f32) (D : FVec Ideal S4x8x64 .f32) (S : FVec Ideal S4x8x128x128 .f32) (L : FVec Ideal S128x4x8x64x64 .f32) (O : FVec Ideal S128x4x8x64x128 .f32) (M : IVec S64x64 1)
    (hR : res_main_while0b_v226 V = R) (hQ : res_main_while0b_v227 V = Q) (hU : res_main_while0b_v236 V = U) (hD : res_main_while0b_v230 V = D)
    (hS : V (Proc.devRef .tc main_v216_8) = S) (hL : V (Proc.devRef .tc main_v216_5) = L) (hM : V (Proc.devRef .tc main_v216_6) = M) (hO : V (Proc.devRef .tc main_v216_9) = O)
    (k : Fin 128) (b : Fin 4) (h : Fin 8) (a : Fin 64) (d : Fin 128) :
    step_main_v216_9 V (ix5 k b h a d) = if k = n then
      (∑ j : Fin 128, R (ix4 b h a j) * Ideal.exp (D (ix3 b h a)) * S (ix4 b h j d))
        + ∑ e : Fin 64, Scalar.select (M (ix2 a e)) ((∑ j : Fin 128, R (ix4 b h a j) * Q (ix4 b h e j)) * L (ix5 n b h a e)) 0 * U (ix4 b h e d)
      else O (ix5 k b h a d) := by
  unfold step_main_v216_9
  rw [hR, hQ, hU, hD, hS, hL, hM, hO]
  refine (put_at O _ _ n (start5 hc) k b h a d).trans ?_
  have e : ∀ B : FVec Ideal S4x8x64x64 .f32, addf (Host.dotGeneral dot_S4x8x64x128_S4x8x128x128_S4x8x64x128_3_2_2_3_01_01 none (mulf R (broadcastInDim S4x8x64x128 ![0, 1, 2, 3] bcast_S4x8x64x1_S4x8x64x128_0_1_2_3 (broadcastInDim S4x8x64x1 ![0, 1, 2] bcast_S4x8x64_S4x8x64x1_0_1_2 (Host.exp D)))) S)
      (Host.dotGeneral dot_S4x8x64x64_S4x8x64x128_S4x8x64x128_3_2_2_3_01_01 none (select (broadcastInDim S4x8x64x64 ![2, 3] bcast_S64x64_S4x8x64x64_2_3 M)
        (mulf (Host.dotGeneral dot_S4x8x64x128_S4x8x64x128_S4x8x64x64_3_3_2_2_01_01 none R Q) B) (broadcastInDim S4x8x64x64 ![] bcast_S_S4x8x64x64 (constant S_ .f32 0x00000000#32))) U) (ix4 b h a d)
      = (∑ j : Fin 128, R (ix4 b h a j) * Ideal.exp (D (ix3 b h a)) * S (ix4 b h j d))
        + ∑ e : Fin 64, Scalar.select (M (ix2 a e)) ((∑ j : Fin 128, R (ix4 b h a j) * Q (ix4 b h e j)) * B (ix4 b h a e)) 0 * U (ix4 b h e d) := fun B => by pointwise
  by_cases hk : k = n
  · rw [if_pos hk, if_pos hk]
    refine (e _).trans ?_
    exact congrArg (fun p : EReal => (∑ j : Fin 128, R (ix4 b h a j) * Ideal.exp (D (ix3 b h a)) * S (ix4 b h j d)) + p) (Finset.sum_congr rfl fun e _ =>
      congrArg (fun p : EReal => Scalar.select (M (ix2 a e)) ((∑ j : Fin 128, R (ix4 b h a j) * Q (ix4 b h e j)) * p) 0 * U (ix4 b h e d)) (slotS_at L _ n (start5 hc) b h a e))
  · rw [if_neg hk, if_neg hk]

omit hc in
/-- The state after the trip. -/
theorem step8_at (Q U : FVec Ideal S4x8x64x128 .f32) (D : FVec Ideal S4x8x64 .f32) (S : FVec Ideal S4x8x128x128 .f32)
    (hQ : res_main_while0b_v227 V = Q) (hU : res_main_while0b_v236 V = U) (hD : res_main_while0b_v230 V = D) (hS : V (Proc.devRef .tc main_v216_8) = S)
    (b : Fin 4) (h : Fin 8) (d e : Fin 128) :
    step_main_v216_8 V (ix4 b h d e) = S (ix4 b h d e) * Ideal.exp (D (ix3 b h 63))
      + ∑ a : Fin 64, Q (ix4 b h a d) * Ideal.exp (D (ix3 b h 63) - D (ix3 b h a)) * U (ix4 b h a e) := by
  unfold step_main_v216_8
  rw [hQ, hU, hD, hS]
  show addf (s := S4x8x128x128) (φ := .f32) _ _ (ix4 b h d e) = _
  pointwise

end trip

variable (m : (ℓ : Loc nD τ sig) → Buf (Elt Ideal) ℓ) (c : Dev nD)

/-- What holds before trip `n`. -/
structure Inv (V : Valuation τ sig (Elt Ideal)) (n : ℕ) : Prop where
  c0 : V (Proc.devRef .tc main_v216_0) = E m c main_v216_0
  c1 : V (Proc.devRef .tc main_v216_1) = E m c main_v216_1
  c2 : V (Proc.devRef .tc main_v216_2) = E m c main_v216_2
  c3 : V (Proc.devRef .tc main_v216_3) = E m c main_v216_3
  c4 : V (Proc.devRef .tc main_v216_4) = E m c main_v216_4
  c5 : V (Proc.devRef .tc main_v216_5) = E m c main_v216_5
  c6 : V (Proc.devRef .tc main_v216_6) = E m c main_v216_6
  ctr : V (Proc.devRef .tc main_v216_7) = fun _ => BitVec.ofNat 32 n
  st : ∀ (b : Fin 4) (h : Fin 8) (d e : Fin 128), V (Proc.devRef .tc main_v216_8) (ix4 b h d e) = state (weights m c) (tokens m c b) n h d e
  rd : ∀ k : Fin 128, k.val < n → ∀ (b : Fin 4) (h : Fin 8) (a : Fin 64) (d : Fin 128), V (Proc.devRef .tc main_v216_9) (ix5 k b h a d)
    = oread (chunk (weights m c) (tokens m c b) k) (state (weights m c) (tokens m c b) k.val) a (col h d)

/-- It holds at the loop's entry. -/
theorem inv_entry : Inv m c (entryContents preI m c) 0 where
  c0 := rfl
  c1 := rfl
  c2 := rfl
  c3 := rfl
  c4 := rfl
  c5 := rfl
  c6 := rfl
  ctr := carry7_eq m c
  st := fun b h d e => carry8_at m c b h d e
  rd := fun k hk => absurd hk (Nat.not_lt_zero _)

section keep
variable {m c} {V : Valuation τ sig (Elt Ideal)} {n : Fin 128} (I : Inv m c V n.val)
include I

/-- The trip's read keys are the chunk's. -/
theorem Inv.r226 (b : Fin 4) (h : Fin 8) (a : Fin 64) (d : Fin 128) : res_main_while0b_v226 V (ix4 b h a d) = rk (tokens m c b n) a (col h d) :=
  (r226_at I.ctr _ I.c0 b h a d).trans ((carry0_at m c n b h a d).trans (v48_at m c b h n a d))

/-- The trip's write keys are the chunk's. -/
theorem Inv.r227 (b : Fin 4) (h : Fin 8) (a : Fin 64) (d : Fin 128) :
    res_main_while0b_v227 V (ix4 b h a d) = wk (tokens m c b n) (before (tokens m c b) n) a (col h d) :=
  (r227_at I.ctr _ I.c1 b h a d).trans ((carry1_at m c n b h a d).trans (v49_at m c b h n a d))

/-- The trip's running sums are the chunk's. -/
theorem Inv.r230 (b : Fin 4) (h : Fin 8) (a : Fin 64) : res_main_while0b_v230 V (ix3 b h a) = dec (weights m c) (tokens m c b n) a h :=
  (r230_at I.ctr _ I.c4 b h a).trans ((carry4_at m c n b h a).trans (v54_at m c b h n a))

/-- The trip's written values are the chunk's. -/
theorem Inv.r236 (b : Fin 4) (h : Fin 8) (a : Fin 64) (d : Fin 128) : res_main_while0b_v236 V (ix4 b h a d)
    = vnew (chunk (weights m c) (tokens m c b) n) (state (weights m c) (tokens m c b) n.val) a (col h d) := by
  refine (r236_at I.ctr _ _ _ I.c2 I.c3 rfl b h a d).trans ?_
  unfold vnew
  simp only [hd_col, lo_col]
  exact congrArg₂ (fun p q : EReal => p - q) ((carry2_at m c n b h a d).trans (v204_at m c b h n a d)) (Finset.sum_congr rfl fun k _ =>
    congrArg₂ (fun p q : EReal => p * q) ((carry3_at m c n b h a k).trans (v207_at m c b h n a k)) (I.st b h k d))

/-- What the trip's tokens read is what the chunk's tokens read. -/
theorem Inv.step9 (k : Fin 128) (b : Fin 4) (h : Fin 8) (a : Fin 64) (d : Fin 128) : step_main_v216_9 V (ix5 k b h a d) = if k = n then
    oread (chunk (weights m c) (tokens m c b) n) (state (weights m c) (tokens m c b) n.val) a (col h d) else (V (Proc.devRef .tc main_v216_9) (ix5 k b h a d) : EReal) := by
  refine (step9_at I.ctr _ _ _ _ _ _ _ _ rfl rfl rfl rfl rfl I.c5 I.c6 rfl k b h a d).trans ?_
  split
  · unfold oread
    simp only [hd_col, lo_col]
    refine congrArg₂ (fun p q : EReal => p + q) (Finset.sum_congr rfl fun j _ => ?_) (Finset.sum_congr rfl fun e _ => ?_)
    · refine congrArg₂ (fun p q : EReal => p * q) ?_ (I.st b h j d)
      unfold chunk prep
      dsimp only
      rw [hd_col]
      exact congrArg₂ (fun p q : EReal => p * Ideal.exp q) (I.r226 b h a j) (I.r230 b h a)
    · refine congrArg₂ (fun p q : EReal => p * q) ?_ (I.r236 b h e d)
      have hd : (∑ j : Fin 128, @HMul.hMul EReal EReal EReal _ (res_main_while0b_v226 V (ix4 b h a j)) (res_main_while0b_v227 V (ix4 b h e j)))
          = ∑ j : Fin 128, rk (tokens m c b n) a (col h j) * wk (tokens m c b n) (before (tokens m c b) n) e (col h j) :=
        Finset.sum_congr rfl fun j _ => congrArg₂ (fun p q : EReal => p * q) (I.r226 b h a j) (I.r227 b h e j)
      have hl : E m c main_v216_5 (ix5 n b h a e) = lmask (weights m c) (tokens m c b n) h a e := (carry5_at m c n b h a e).trans (v67_at m c b h n a e)
      refine (congrArg₂ (fun (p : BitVec 1) (q : EReal) => Scalar.select p q 0) (carry6_at m c a e) (congrArg₂ (fun p q : EReal => p * q) hd hl)).trans ?_
      show _ = (∑ j : Fin 128, rk (tokens m c b n) a (col h j) * wk (tokens m c b n) (before (tokens m c b) n) e (col h j)) * lmask (weights m c) (tokens m c b n) h a e
      by_cases he : e ≤ a
      · simp only [if_pos he]
        rfl
      · unfold lmask
        simp only [if_neg he, mul_zero]
        rfl
  · rfl

/-- The state after the trip is the state after the chunk. -/
theorem Inv.step8 (b : Fin 4) (h : Fin 8) (d e : Fin 128) : step_main_v216_8 V (ix4 b h d e) = state (weights m c) (tokens m c b) (n.val + 1) h d e := by
  refine (step8_at _ _ _ _ rfl rfl rfl rfl b h d e).trans ?_
  rw [state, dif_pos n.isLt]
  unfold snext
  refine congrArg₂ (fun p q : EReal => p + q) (congrArg₂ (fun p q : EReal => p * Ideal.exp q) (I.st b h d e) (I.r230 b h 63)) (Finset.sum_congr rfl fun a _ => ?_)
  refine congrArg₂ (fun p q : EReal => p * q) ?_ (I.r236 b h a e)
  unfold chunk prep
  dsimp only
  rw [hd_col]
  exact congrArg₂ (fun p q : EReal => p * Ideal.exp q) (I.r227 b h a d) (congrArg₂ (fun p q : EReal => p - q) (I.r230 b h 63) (I.r230 b h a))

/-- It holds after the trip. -/
theorem Inv.next : Inv m c (STEP V) (n.val + 1) where
  c0 := (STEP_main_v216_0 V).trans I.c0
  c1 := (STEP_main_v216_1 V).trans I.c1
  c2 := (STEP_main_v216_2 V).trans I.c2
  c3 := (STEP_main_v216_3 V).trans I.c3
  c4 := (STEP_main_v216_4 V).trans I.c4
  c5 := (STEP_main_v216_5 V).trans I.c5
  c6 := (STEP_main_v216_6 V).trans I.c6
  ctr := by
    rw [STEP_main_v216_7]
    unfold step_main_v216_7
    rw [I.ctr]
    funext _
    show BitVec.ofNat 32 n.val + 1#32 = _
    exact (BitVec.ofNat_add ..).symm
  st := fun b h d e => (congrFun (STEP_main_v216_8 V) _).trans (I.step8 b h d e)
  rd := fun k hk b h a d => by
    refine (congrFun (STEP_main_v216_9 V) _).trans ((I.step9 k b h a d).trans ?_)
    by_cases hn : k = n
    · rw [if_pos hn, hn]
    · rw [if_neg hn]
      exact I.rd k (lt_of_le_of_ne (Nat.lt_succ_iff.mp hk) fun he => hn (Fin.ext he)) b h a d

end keep

/-- It holds before every trip and after the last. -/
theorem inv_at : ∀ n : ℕ, n ≤ 128 → Inv m c (STEP^[n] (entryContents preI m c)) n
  | 0, _ => inv_entry m c
  | n + 1, hn => by
    rw [Function.iterate_succ_apply']
    exact Inv.next (n := ⟨n, hn⟩) (inv_at n (Nat.le_of_succ_le hn))

/-- What every token read, when the loop ends. -/
theorem read_at (k : Fin 128) (b : Fin 4) (h : Fin 8) (a : Fin 64) (d : Fin 128) : atK m 128 c (Proc.devRef .tc main_v216_9) (ix5 k b h a d)
    = oread (chunk (weights m c) (tokens m c b) k) (state (weights m c) (tokens m c b) k.val) a (col h d) :=
  (congrFun (atK_agree m c 128 main_v216_9 (by decide)) _).trans ((inv_at m c 128 le_rfl).rd k k.isLt b h a d)

end Cert.ReferenceIdeal.Value

end
-- ==== Proof.RefValue.lean ====
/- The reference's result: the layer of its arguments. -/
module

public import proofs.«01_k».proof.Proof.RefLoop

@[expose] public section

set_option maxRecDepth 16384

noncomputable section

namespace Cert.ReferenceIdeal.Value

open Idealize.ShloMosaic Idealize.ShloMosaic.TcCoe Idealize.SL.Sem Idealize.ShloMosaic.StableHlo Cert.Gdn
open Cert.ReferenceIdeal Cert.ReferenceIdeal.Gen

variable (m : (ℓ : Loc nD τ sig) → Buf (Elt Ideal) ℓ) (c : Dev nD)

/-- A buffer that neither the loop's body nor its condition writes is, after the loop, as before it. -/
theorem loop_keep {r : Ref sig .tc} (hb : ∀ w ∈ bodyWs, r ∉ w) (hc : r ∉ condOps_W) : ∀ k, atK m k c (Proc.devRef .tc r) = E m c r
  | 0 => rfl
  | k + 1 => (afterL_keep bodyL bodyL_ok (List.forall_iff_forall_mem.mpr fun _ hp => hb _ (List.mem_map_of_mem (f := Prod.snd) hp)) _).trans
      ((after_of_writes_sub condOps _ condOps_writes hc).trans (loop_keep hb hc k))

/-- A buffer that no stretch before the loop writes is, at the loop, as launched. -/
theorem entry_keep {r : Ref sig .tc} (h : ∀ w ∈ preWs, r ∉ w) : E m c r = launchContents m c (Proc.devRef .tc r) :=
  afterL_keep preL preL_ok (List.forall_iff_forall_mem.mpr fun _ hp => h _ (List.mem_map_of_mem (f := Prod.snd) hp)) _

/-- The operations after the loop, at one entry. -/
theorem post_at (V : Valuation τ sig (Elt Ideal)) (b : Fin 4) (n : Fin 128) (a : Fin 64) (j : Fin 1024) :
    after hostOps0_17 V (Proc.devRef .tc main_v225) (ix3 b (tk n a) j) = @HAdd.hAdd EReal EReal EReal _ (V (Proc.devRef .tc main_arg0) (ix3 b (tk n a) j))
      (∑ x : Fin 1024, @HMul.hMul EReal EReal EReal _ (@HMul.hMul EReal EReal EReal _ (V (Proc.devRef .tc main_v216_9) (ix5 n b (hd x) a (lo x)))
        (V (Proc.devRef .tc main_v11) (ix4 b (tk n a) (hd x) 0))) (V (Proc.devRef .tc main_arg3) (ix2 j x))) := by
  after_reads_at
  have e1 : ∀ hh, (⟨(tk n a).val / 64, hh⟩ : Fin 128) = n := fun hh => Fin.ext (by show (n.val * 64 + a.val) / 64 = n.val; omega)
  have e2 : ∀ hh, (⟨(tk n a).val % 64, hh⟩ : Fin 64) = a := fun hh => Fin.ext (by show (n.val * 64 + a.val) % 64 = a.val; omega)
  simp only [e1, e2]
  rfl

/-- What the buffers hold after the loop. -/
abbrev X : Valuation τ sig (Elt Ideal) := after condOps (atK m 128 c)

/-- What every token read. -/
theorem X_read (n : Fin 128) (b : Fin 4) (a : Fin 64) (x : Fin 1024) : X m c (Proc.devRef .tc main_v216_9) (ix5 n b (hd x) a (lo x))
    = oread (chunk (weights m c) (tokens m c b) n) (state (weights m c) (tokens m c b) n.val) a x :=
  (congrFun (cond_keeps (atK m 128 c) main_v216_9 (by decide)) _).trans ((read_at m c n b (hd x) a (lo x)).trans (by rw [col_hd_lo]))

/-- The gates. -/
theorem X_gate (n : Fin 128) (b : Fin 4) (a : Fin 64) (h : Fin 8) : X m c (Proc.devRef .tc main_v11) (ix4 b (tk n a) h 0) = gate (weights m c) (tokens m c b n) a h :=
  (congrFun ((after_of_writes_sub condOps _ condOps_writes (by decide +kernel)).trans (loop_keep m c (by decide +kernel) (by decide +kernel) 128)) _).trans
    (v11_at m c b n a h)

/-- A buffer that nothing writes, after the loop. -/
theorem X_fixed {r : Ref sig .tc} (h : Fixed r) : X m c (Proc.devRef .tc r) = launchContents m c (Proc.devRef .tc r) :=
  (after_of_writes_sub condOps _ condOps_writes h.2.2.1).trans ((loop_keep m c h.2.1 h.2.2.1 128).trans (entry_keep m c h.1))

/-- The result's entry. -/
theorem result_at (b : Fin 4) (n : Fin 128) (a : Fin 64) (j : Fin 1024) :
    finalContents condOps preI bodyI postI 128 m c (Proc.devRef .tc main_v225) (ix3 b (tk n a) j) = result (weights m c) (tokens m c b) n a j := by
  refine (post_at (X m c) b n a j).trans ?_
  unfold result oout
  refine congrArg₂ (fun p q : EReal => p + q) ?_ (Finset.sum_congr rfl fun x _ => ?_)
  · exact (congrFun (X_fixed m c args_fixed.1) _).trans (arg0_at m c b n a j)
  · exact congrArg₂ (fun p q : EReal => p * q) (congrArg₂ (fun p q : EReal => p * q) (X_read m c n b a x) (X_gate m c n b a (hd x)))
      (congrFun (X_fixed m c args_fixed.2.2.2.1) _)

/-- The result array is the layer of the arguments. -/
theorem result_eq : finalContents condOps preI bodyI postI 128 m c (Proc.devRef .tc main_v225) = layer (weights m c) (m (c.tc.loc main_arg0)) := by
  funext y
  obtain ⟨b, t, j, e⟩ : ∃ (b : Fin 4) (t : Fin 8192) (j : Fin 1024), y = ix3 b t j := ⟨y 0, y 1, y 2, eq_ix3 (n0 := 4) (n1 := 8192) (n2 := 1024) y⟩
  subst e
  obtain ⟨n, a, e⟩ : ∃ (n : Fin 128) (a : Fin 64), t = tk n a := ⟨⟨t.val / 64, by omega⟩, ⟨t.val % 64, by omega⟩, Fin.ext (by simp only [tk]; omega)⟩
  subst e
  refine (result_at m c b n a j).trans (Eq.trans (layer_apply (weights m c) (m (c.tc.loc main_arg0)) b n a j (by omega)).symm ?_)
  exact congrArg (fun t => layer (weights m c) (m (c.tc.loc main_arg0)) (ix3 b t j)) (Fin.ext (by simp only [tk]; omega))

/-- The reference's run: the result array is the layer of the arguments, which stay. -/
theorem run_value (ρ : Dev nD → PrngReg) : θ_run defs (onTc (τ := τ) (main (F := Ideal))) ⟨m, fun _ => 0, ρ⟩ (fun r => ∀ c : Dev nD,
      r.2.mem ((c.tc : Thread nD τ).loc main_v225) = layer (weights m c) (m (c.tc.loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c main_v225 rfl).trans (result_eq m c), args_end m h c⟩) (run_fold m ρ)

end Cert.ReferenceIdeal.Value

end
-- ==== Proof.lean ====
/- The claims of Defs.lean, assembled: the frames (Proof/KernelFrame.lean, Proof/IdealFrame.lean, Proof/RefFrame.lean), the
   named constant, and the values of both idealized programs (Proof/KernelValue.lean, Proof/RefValue.lean). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelFrame
public import proofs.«01_k».proof.Proof.IdealFrame
public import proofs.«01_k».proof.Proof.RefFrame
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem

/-- Of equal arguments, both idealized programs end with the layer of the arguments. -/
theorem algebraic : Cert.algebraic_KernelIdeal_ReferenceIdeal (hKernelIdeal := Cert.KernelIdeal.Gen.facts) (hReferenceIdeal := Cert.ReferenceIdeal.Gen.facts) := by
  intro m g m' g' _ e
  refine ⟨fun c => Cert.KernelIdeal.Value.out m c, Cert.KernelIdeal.Value.run_value m g, ?_⟩
  refine (θ_run _ _ _).mono (fun r h c => ⟨(h c).1.trans ?_, (h c).2⟩) (Cert.ReferenceIdeal.Value.run_value m' g')
  obtain ⟨e0, e1, e2, e3, e4, e5, e6, e7⟩ := e c
  unfold Cert.KernelIdeal.Value.out Cert.ReferenceIdeal.Value.weights Cert.KernelIdeal.Value.weights
  rw [e0, e1, e2, e3, e4, e5, e6, e7]

/-- Every claim of the certificate. -/
theorem claim : Cert.Claim := ⟨Cert.Kernel.Gen.facts, Cert.KernelIdeal.Gen.facts, Cert.ReferenceIdeal.Gen.facts,
  fun m ρ _ => Cert.Kernel.Body.frame_holds m ρ,
  fun m ρ _ => Cert.KernelIdeal.Body.frame_holds m ρ,
  fun m ρ _ => Cert.ReferenceIdeal.Value.frame_holds m ρ,
  IdealRules.named_const.statement Cert.KernelIdeal.κ "mask" .f32 0xF149F2CA#32 ⊥ rfl,
  algebraic⟩

end Cert.Proof

end
